-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S2048x16x1024 : Shape := ⟨3, ![2048, 16, 1024]⟩
abbrev S16 : Shape := ⟨1, ![16]⟩
abbrev S_ : Shape := ⟨0, ![]⟩

class Facts : Prop where
  bcast_S_S2048x16x1024 : S_.BroadcastsInDim S2048x16x1024 (![] : Fin 0 → Fin S2048x16x1024.rank)
  reducesTo_S2048x16x1024_S_d0_1_2 : S2048x16x1024.ReducesTo [0, 1, 2] S_
  h_S_ : 0 < S_.numel

variable [Facts]

def fn {F : FTy → Type} [FloatOps F] (main_arg0 : FVec F S2048x16x1024 .f32) (main_arg1 : IVec S16 32) : IVec S_ 1 :=
  let main_v0 : FVec F S2048x16x1024 .f32 := Host.absf main_arg0
  let main_cst : FVec F S_ .f32 := constant S_ .f32 0x7F800000#32
  let main_v1 : FVec F S2048x16x1024 .f32 := broadcastInDim S2048x16x1024 ![] bcast_S_S2048x16x1024 main_cst
  let main_v2 : IVec S2048x16x1024 1 := cmpf .olt main_v0 main_v1
  let main_c : IVec S_ 1 := constantI S_ 1 1#1
  let main_v3 : IVec S_ 1 := (fun x v => Host.reduce IntOp.andi x v reducesTo_S2048x16x1024_S_d0_1_2 h_S_) main_v2 main_c
  main_v3
-- ==== Kernel.lean ====
abbrev S2048x16x1024 : Shape := ⟨3, ![2048, 16, 1024]⟩
abbrev S16 : Shape := ⟨1, ![16]⟩
abbrev S1x16 : Shape := ⟨2, ![1, 16]⟩
abbrev S16x2048 : Shape := ⟨2, ![16, 2048]⟩
abbrev S8x1x16 : Shape := ⟨3, ![8, 1, 16]⟩
abbrev S256x16x1024 : Shape := ⟨3, ![256, 16, 1024]⟩
abbrev S16x256 : Shape := ⟨2, ![16, 256]⟩
abbrev S1x1x16 : Shape := ⟨3, ![1, 1, 16]⟩
abbrev S256x16 : Shape := ⟨2, ![256, 16]⟩
abbrev S256x16x1 : Shape := ⟨3, ![256, 16, 1]⟩
abbrev S256x1 : Shape := ⟨2, ![256, 1]⟩
abbrev S16x16 : Shape := ⟨2, ![16, 16]⟩
abbrev S2048 : Shape := ⟨1, ![2048]⟩
abbrev S_ : Shape := ⟨0, ![]⟩
abbrev S1x2048 : Shape := ⟨2, ![1, 2048]⟩
abbrev S2048x16 : Shape := ⟨2, ![2048, 16]⟩
abbrev S16x1 : Shape := ⟨2, ![16, 1]⟩

abbrev nBuf : Table → Nat
  | .hbm => 12
  | .local .tc .vmem => 13
  | .local .scVector .vmem => 4
  | _ => 0

abbrev bufTy : (tb : Table) → Fin (nBuf tb) → BufTy
  | .hbm, ⟨0, _⟩ => ⟨S2048x16x1024, .f32⟩
  | .hbm, ⟨1, _⟩ => ⟨S16, .i32⟩
  | .hbm, ⟨2, _⟩ => ⟨S1x16, .i32⟩
  | .hbm, ⟨3, _⟩ => ⟨S16x2048, .i32⟩
  | .hbm, ⟨4, _⟩ => ⟨S8x1x16, .f32⟩
  | .hbm, ⟨5, _⟩ => ⟨S16x2048, .i32⟩
  | .hbm, ⟨6, _⟩ => ⟨S16x16, .i32⟩
  | .hbm, ⟨7, _⟩ => ⟨S2048x16, .i32⟩
  | .hbm, ⟨8, _⟩ => ⟨S1x16, .i32⟩
  | .hbm, ⟨9, _⟩ => ⟨S1x16, .f32⟩
  | .hbm, ⟨10, _⟩ => ⟨S16, .f32⟩
  | .hbm, ⟨11, _⟩ => ⟨S16, .i32⟩
  | .local .tc .vmem, ⟨0, _⟩ => ⟨S1x16, .i32⟩
  | .local .tc .vmem, ⟨1, _⟩ => ⟨S256x16x1024, .f32⟩
  | .local .tc .vmem, ⟨2, _⟩ => ⟨S256x16x1024, .f32⟩
  | .local .tc .vmem, ⟨3, _⟩ => ⟨S16x256, .i32⟩
  | .local .tc .vmem, ⟨4, _⟩ => ⟨S16x256, .i32⟩
  | .local .tc .vmem, ⟨5, _⟩ => ⟨S1x1x16, .f32⟩
  | .local .tc .vmem, ⟨6, _⟩ => ⟨S1x1x16, .f32⟩
  | .local .tc .vmem, ⟨7, _⟩ => ⟨S16x2048, .i32⟩
  | .local .tc .vmem, ⟨8, _⟩ => ⟨S16x16, .i32⟩
  | .local .tc .vmem, ⟨9, _⟩ => ⟨S8x1x16, .f32⟩
  | .local .tc .vmem, ⟨10, _⟩ => ⟨S2048x16, .i32⟩
  | .local .tc .vmem, ⟨11, _⟩ => ⟨S1x16, .i32⟩
  | .local .tc .vmem, ⟨12, _⟩ => ⟨S1x16, .f32⟩
  | .local .scVector .vmem, ⟨0, _⟩ => ⟨S2048, .i32⟩
  | .local .scVector .vmem, ⟨1, _⟩ => ⟨S2048, .i32⟩
  | .local .scVector .vmem, ⟨2, _⟩ => ⟨S16, .i32⟩
  | .local .scVector .vmem, ⟨3, _⟩ => ⟨S16, .i32⟩
  | _, _ => ⟨S2048x16x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v1_0_scv : Ref sig .scVector := ⟨.hbm, 3, rfl⟩
abbrev main_arg1_scv : Ref sig .scVector := ⟨.hbm, 1, rfl⟩
abbrev main_v2_0_scv : Ref sig .scVector := ⟨.hbm, 5, rfl⟩
abbrev main_v2_1_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  ![v1.toNat, 0]

def k1_chk1 (i : grid1.Coords) (v5 : IVec S16 32) : Prop :=
  (∀ (k1_h1 : k1_cond1 i = 1#1), ∀ a x, ((![v5] : Fin 1 → IVec S16 32) a x).toNat < S16.size a)
theorem k1_idx1_inb : ∀ (i : grid1.Coords) (v5 : IVec S16 32) (k1_hw1 : k1_chk1 i v5), ∀ (k1_h1 : k1_cond1 i = 1#1), ∀ a x, ((![v5] : Fin 1 → IVec S16 32) a x).toNat < S16.size a := fun i v5 k1_hw1 k1_h1 => k1_hw1 k1_h1
@[reducible] def k1_t1_loop : Scf.Loop 32 :=
  let c0_i32_1 : BitVec 32 := 0#32
  let c64_i32 : BitVec 32 := 64#32
  let v8 : BitVec 32 := Scalar.addi c0_i32_1 c64_i32
  let c1_i32 : BitVec 32 := 1#32
  ⟨c0_i32_1, v8, c1_i32⟩
def k1_off2 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c32_i32 : BitVec 32 := 32#32
  let v12 : BitVec 32 := Scalar.muli arg10 c32_i32
  let v16 : Index := Scalar.indexCast v12
  ![v16.toNat]

def k1_chk2 (i : grid1.Coords) (v21 : IVec S16 32) : Prop :=
  (∀ (k1_h1 : k1_cond1 i = 1#1), ∀ a x, ((![v21] : Fin 1 → IVec S16 32) a x).toNat < S2048.size a)
theorem k1_idx2_inb : ∀ (i : grid1.Coords) (v21 : IVec S16 32) (k1_hw2 : k1_chk2 i v21), ∀ (k1_h1 : k1_cond1 i = 1#1), ∀ a x, ((![v21] : Fin 1 → IVec S16 32) a x).toNat < S2048.size a := fun i v21 k1_hw2 k1_h1 => k1_hw2 k1_h1

def k1_chk3 (i : grid1.Coords) (v40 : IVec S16 32) : Prop :=
  (∀ (k1_h1 : k1_cond1 i = 1#1), ∀ a x, ((![v40] : Fin 1 → IVec S16 32) a x).toNat < S2048.size a)
theorem k1_idx3_inb : ∀ (i : grid1.Coords) (v40 : IVec S16 32) (k1_hw3 : k1_chk3 i v40), ∀ (k1_h1 : k1_cond1 i = 1#1), ∀ a x, ((![v40] : Fin 1 → IVec S16 32) a x).toNat < S2048.size a := fun i v40 k1_hw3 k1_h1 => k1_hw3 k1_h1
def k1_off3 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c32_i32 : BitVec 32 := 32#32
  let v12 : BitVec 32 := Scalar.muli arg10 c32_i32
  let c16_i32_3 : BitVec 32 := 16#32
  let v13 : BitVec 32 := Scalar.addi v12 c16_i32_3
  let v50 : Index := Scalar.indexCast v13
  ![v50.toNat]

def k1_chk4 (i : grid1.Coords) (v55 : IVec S16 32) : Prop :=
  (∀ (k1_h1 : k1_cond1 i = 1#1), ∀ a x, ((![v55] : Fin 1 → IVec S16 32) a x).toNat < S2048.size a)
theorem k1_idx4_inb : ∀ (i : grid1.Coords) (v55 : IVec S16 32) (k1_hw4 : k1_chk4 i v55), ∀ (k1_h1 : k1_cond1 i = 1#1), ∀ a x, ((![v55] : Fin 1 → IVec S16 32) a x).toNat < S2048.size a := fun i v55 k1_hw4 k1_h1 => k1_hw4 k1_h1

def k1_chk5 (i : grid1.Coords) (v74 : IVec S16 32) : Prop :=
  (∀ (k1_h1 : k1_cond1 i = 1#1), ∀ a x, ((![v74] : Fin 1 → IVec S16 32) a x).toNat < S2048.size a)
theorem k1_idx5_inb : ∀ (i : grid1.Coords) (v74 : IVec S16 32) (k1_hw5 : k1_chk5 i v74), ∀ (k1_h1 : k1_cond1 i = 1#1), ∀ a x, ((![v74] : Fin 1 → IVec S16 32) a x).toNat < S2048.size a := fun i v74 k1_hw5 k1_h1 => k1_hw5 k1_h1
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r3 : BitVec 32 := 0#32
  ![v1.toNat, 0]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r4 : BitVec 32 := 0#32
  ![v1.toNat, 0]
abbrev grid2 : Pipeline.Grid := .none

abbrev stage2_0 : Fin 1 → Memref sig .tc .vmem S16x2048 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x16 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2048x16 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x16 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x16x1024 : Shape := ⟨3, ![2048, 16, 1024]⟩
abbrev S16 : Shape := ⟨1, ![16]⟩
abbrev S_ : Shape := ⟨0, ![]⟩
abbrev S2048x16 : Shape := ⟨2, ![2048, 16]⟩
abbrev S2048x16x1 : Shape := ⟨3, ![2048, 16, 1]⟩
abbrev S16x2048x1024 : Shape := ⟨3, ![16, 2048, 1024]⟩
abbrev S16x2048 : Shape := ⟨2, ![16, 2048]⟩
abbrev S16x2047 : Shape := ⟨2, ![16, 2047]⟩
abbrev S16x1 : Shape := ⟨2, ![16, 1]⟩
abbrev S2048 : Shape := ⟨1, ![2048]⟩
abbrev S1x2048 : Shape := ⟨2, ![1, 2048]⟩
abbrev S16x2048x1 : Shape := ⟨3, ![16, 2048, 1]⟩
abbrev S1 : Shape := ⟨1, ![1]⟩
abbrev S1x1x1 : Shape := ⟨3, ![1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S2048x16x1024, .f32⟩
  | .hbm, ⟨1, _⟩ => ⟨S16, .i32⟩
  | .hbm, ⟨2, _⟩ => ⟨S_, .f32⟩
  | .hbm, ⟨3, _⟩ => ⟨S2048x16, .f32⟩
  | .hbm, ⟨4, _⟩ => ⟨S_, .f32⟩
  | .hbm, ⟨5, _⟩ => ⟨S2048x16, .f32⟩
  | .hbm, ⟨6, _⟩ => ⟨S2048x16, .f32⟩
  | .hbm, ⟨7, _⟩ => ⟨S2048x16x1, .f32⟩
  | .hbm, ⟨8, _⟩ => ⟨S2048x16x1024, .f32⟩
  | .hbm, ⟨9, _⟩ => ⟨S2048x16x1024, .f32⟩
  | .hbm, ⟨10, _⟩ => ⟨S2048x16x1024, .f32⟩
  | .hbm, ⟨11, _⟩ => ⟨S_, .f32⟩
  | .hbm, ⟨12, _⟩ => ⟨S2048x16, .f32⟩
  | .hbm, ⟨13, _⟩ => ⟨S2048x16x1, .f32⟩
  | .hbm, ⟨14, _⟩ => ⟨S2048x16x1, .f32⟩
  | .hbm, ⟨15, _⟩ => ⟨S2048x16x1024, .f32⟩
  | .hbm, ⟨16, _⟩ => ⟨S2048x16x1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1024, .i32⟩
  | .hbm, ⟨21, _⟩ => ⟨S_, .f32⟩
  | .hbm, ⟨22, _⟩ => ⟨S_, .i32⟩
  | .hbm, ⟨23, _⟩ => ⟨S16x2048, .f32⟩
  | .hbm, ⟨24, _⟩ => ⟨S16x2048, .i32⟩
  | .hbm, ⟨25, _⟩ => ⟨S_, .i32⟩
  | .hbm, ⟨26, _⟩ => ⟨S16x2048, .i32⟩
  | .hbm, ⟨27, _⟩ => ⟨S16x2048, .i1⟩
  | .hbm, ⟨28, _⟩ => ⟨S16x2047, .i1⟩
  | .hbm, ⟨29, _⟩ => ⟨S16x2047, .i32⟩
  | .hbm, ⟨30, _⟩ => ⟨S16x2047, .i32⟩
  | .hbm, ⟨31, _⟩ => ⟨S16x2047, .i1⟩
  | .hbm, ⟨32, _⟩ => ⟨S16x2047, .i1⟩
  | .hbm, ⟨33, _⟩ => ⟨S16x1, .i1⟩
  | .hbm, ⟨34, _⟩ => ⟨S16x2048, .i1⟩
  | .hbm, ⟨35, _⟩ => ⟨S2048, .i32⟩
  | .hbm, ⟨36, _⟩ => ⟨S1x2048, .i32⟩
  | .hbm, ⟨37, _⟩ => ⟨S16x1, .i32⟩
  | .hbm, ⟨38, _⟩ => ⟨S16x2048, .i32⟩
  | .hbm, ⟨39, _⟩ => ⟨S16x2048, .i32⟩
  | .hbm, ⟨40, _⟩ => ⟨S16x2048, .i1⟩
  | .hbm, ⟨41, _⟩ => ⟨S16x2048, .i1⟩
  | .hbm, ⟨42, _⟩ => ⟨S_, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S16x2048, .i32⟩
  | .hbm, ⟨47, _⟩ => ⟨S_, .i32⟩
  | .hbm, ⟨48, _⟩ => ⟨S16, .i32⟩
  | .hbm, ⟨49, _⟩ => ⟨S16x2048, .i1⟩
  | .hbm, ⟨50, _⟩ => ⟨S16x2048, .i32⟩
  | .hbm, ⟨51, _⟩ => ⟨S16x2048, .i32⟩
  | .hbm, ⟨52, _⟩ => ⟨S16x2048, .i32⟩
  | .hbm, ⟨53, _⟩ => ⟨S16x2048, .i32⟩
  | .hbm, ⟨54, _⟩ => ⟨S_, .i32⟩
  | .hbm, ⟨55, _⟩ => ⟨S16x2048, .i32⟩
  | .hbm, ⟨56, _⟩ => ⟨S16x2048, .i1⟩
  | .hbm, ⟨57, _⟩ => ⟨S_, .i32⟩
  | .hbm, ⟨58, _⟩ => ⟨S16x2048, .i32⟩
  | .hbm, ⟨59, _⟩ => ⟨S16x2048, .i32⟩
  | .hbm, ⟨60, _⟩ => ⟨S16x2048, .i32⟩
  | .hbm, ⟨61, _⟩ => ⟨S16x2048x1, .i32⟩
  | .hbm, ⟨62, _⟩ => ⟨S1, .i32⟩
  | .hbm, ⟨63, _⟩ => ⟨S_, .i32⟩
  | .hbm, ⟨64, _⟩ => ⟨S16x2048x1, .i32⟩
  | .hbm, ⟨65, _⟩ => ⟨S16x2048x1, .i1⟩
  | .hbm, ⟨66, _⟩ => ⟨S1x1x1, .i32⟩
  | .hbm, ⟨67, _⟩ => ⟨S16x2048x1, .i32⟩
  | .hbm, ⟨68, _⟩ => ⟨S16x2048x1, .i1⟩
  | .hbm, ⟨69, _⟩ => ⟨S16x2048x1, .i1⟩
  | .hbm, ⟨70, _⟩ => ⟨S_, .i1⟩
  | .hbm, ⟨71, _⟩ => ⟨S16x2048, .i1⟩
  | .hbm, ⟨72, _⟩ => ⟨S16x2048, .i32⟩
  | .hbm, ⟨73, _⟩ => ⟨S_, .i32⟩
  | .hbm, ⟨74, _⟩ => ⟨S16x2048, .i32⟩
  | .hbm, ⟨75, _⟩ => ⟨S16x2048, .i32⟩
  | .hbm, ⟨76, _⟩ => ⟨S16x1, .i32⟩
  | .hbm, ⟨77, _⟩ => ⟨S16x2048, .i32⟩
  | .hbm, ⟨78, _⟩ => ⟨S16x2048, .i32⟩
  | .hbm, ⟨79, _⟩ => ⟨S16x2048, .i1⟩
  | .hbm, ⟨80, _⟩ => ⟨S16x2048, .i32⟩
  | .hbm, ⟨81, _⟩ => ⟨S_, .f32⟩
  | .hbm, ⟨82, _⟩ => ⟨S16, .f32⟩
  | .hbm, ⟨83, _⟩ => ⟨S2048x16, .i32⟩
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_call1_v0 : Ref sig .tc := ⟨.hbm, 20, rfl⟩
abbrev main_call1_cst : Ref sig .tc := ⟨.hbm, 21, rfl⟩
abbrev main_call1_c : Ref sig .tc := ⟨.hbm, 22, rfl⟩
abbrev main_call1_v1_0 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_0 : Ref sig .tc := ⟨.hbm, 42, rfl⟩
abbrev main_call2_v0 : Ref sig .tc := ⟨.hbm, 43, rfl⟩
abbrev main_call2_v1 : Ref sig .tc := ⟨.hbm, 44, rfl⟩
abbrev main_v20 : Ref sig .tc := ⟨.hbm, 45, rfl⟩
abbrev main_v21 : Ref sig .tc := ⟨.hbm, 46, rfl⟩
abbrev main_c_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call3_v0 : Ref sig .tc := ⟨.hbm, 51, rfl⟩
abbrev main_call3_v1_0 : Ref sig .tc := ⟨.hbm, 52, rfl⟩
abbrev main_v25 : Ref sig .tc := ⟨.hbm, 53, rfl⟩
abbrev main_call4_c : Ref sig .tc := ⟨.hbm, 54, rfl⟩
abbrev main_call4_v0 : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_v5 : Ref sig .tc := ⟨.hbm, 61, rfl⟩
abbrev main_call4_c_1 : Ref sig .tc := ⟨.hbm, 62, rfl⟩
abbrev main_call4_c_2 : Ref sig .tc := ⟨.hbm, 63, rfl⟩
abbrev main_call4_v6 : Ref sig .tc := ⟨.hbm, 64, rfl⟩
abbrev main_call4_v7 : Ref sig .tc := ⟨.hbm, 65, rfl⟩
abbrev main_call4_v8 : Ref sig .tc := ⟨.hbm, 66, rfl⟩
abbrev main_call4_v9 : Ref sig .tc := ⟨.hbm, 67, rfl⟩
abbrev main_call4_v10 : Ref sig .tc := ⟨.hbm, 68, rfl⟩
abbrev main_call4_v11 : Ref sig .tc := ⟨.hbm, 69, rfl⟩
abbrev main_call4_c_3 : Ref sig .tc := ⟨.hbm, 70, rfl⟩
abbrev main_call4_v12 : Ref sig .tc := ⟨.hbm, 71, rfl⟩
abbrev main_call4_v13 : Ref sig .tc := ⟨.hbm, 72, rfl⟩
abbrev main_call4_c_4 : Ref sig .tc := ⟨.hbm, 73, rfl⟩
abbrev main_call4_v14 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_2 : Ref sig .tc := ⟨.hbm, 81, rfl⟩
abbrev main_v32 : Ref sig .tc := ⟨.hbm, 82, rfl⟩
abbrev main_v33 : Ref sig .tc := ⟨.hbm, 83, rfl⟩

abbrev nD : Nat := 1
abbrev τ : Topo := Topo.v7x

variable {F : FTy → Type} [FloatOps F]
-- ==== Proof.Compact.lean ====
/-
  The compaction of one row, as arithmetic: which positions of a row of labels are kept, how many are kept before a
  position, and what the row's buffer holds after the first `n` positions were compacted in place — and that one group of
  sixteen lanes of the kernel (mask, running sum, positions, indexed store, running maximum) takes the state after `n`
  positions to the state after `n + 16`.
-/
module

public import proofs.«01_k».proof.Defs
public import proofs.«01_k».proof.Proof.Gen.KernelIdeal
public import proofs.«01_k».proof.Proof.Gen.KernelIdeal.Skeleton

@[expose] public section

set_option maxRecDepth 16384

noncomputable section

namespace Cert.Proof.Compact

open Cert.KernelIdeal Cert.KernelIdeal.Gen
open Idealize.ShloMosaic

/-! ## Keep, count, compact -/

/-- Position `n` of the row `a` of length `ln` is kept: its label is not the blank, differs from the one before it (if
    there is one), and lies within the length. -/
def keep (a : ℕ → BitVec 32) (ln : BitVec 32) (n : ℕ) : Prop :=
  a n ≠ 0#32 ∧ (a n ≠ a (n - 1) ∨ n = 0) ∧ (BitVec.ofNat 32 n).slt ln = true

instance (a : ℕ → BitVec 32) (ln : BitVec 32) (n : ℕ) : Decidable (keep a ln n) := by unfold keep; infer_instance

/-- How many of the first `n` positions are kept. -/
def cnt (a : ℕ → BitVec 32) (ln : BitVec 32) : ℕ → ℕ
  | 0 => 0
  | n + 1 => if keep a ln n then cnt a ln n + 1 else cnt a ln n

/-- The row's buffer after the first `n` positions: it starts as the row itself, and each kept label is written at the next
    free place. -/
def outN (a : ℕ → BitVec 32) (ln : BitVec 32) : ℕ → ℕ → BitVec 32
  | 0 => a
  | n + 1 => if keep a ln n then Function.update (outN a ln n) (cnt a ln n) (a n) else outN a ln n

variable {a : ℕ → BitVec 32} {ln : BitVec 32}

theorem cnt_succ_keep {n : ℕ} (h : keep a ln n) : cnt a ln (n + 1) = cnt a ln n + 1 := if_pos h
theorem cnt_succ_not {n : ℕ} (h : ¬ keep a ln n) : cnt a ln (n + 1) = cnt a ln n := if_neg h
theorem outN_succ_keep {n : ℕ} (h : keep a ln n) : outN a ln (n + 1) = Function.update (outN a ln n) (cnt a ln n) (a n) := if_pos h
theorem outN_succ_not {n : ℕ} (h : ¬ keep a ln n) : outN a ln (n + 1) = outN a ln n := if_neg h

theorem cnt_mono_succ (n : ℕ) : cnt a ln n ≤ cnt a ln (n + 1) := by
  by_cases h : keep a ln n
  · rw [cnt_succ_keep h]; omega
  · rw [cnt_succ_not h]
theorem cnt_mono {n k : ℕ} (h : n ≤ k) : cnt a ln n ≤ cnt a ln k := monotone_nat_of_le_succ cnt_mono_succ h
theorem cnt_le (n : ℕ) : cnt a ln n ≤ n := by
  induction n with
  | zero => exact le_refl _
  | succ n ih => unfold cnt; split <;> omega
theorem cnt_add_le (n k : ℕ) : cnt a ln (n + k) ≤ cnt a ln n + k := by
  induction k with
  | zero => exact le_refl _
  | succ k ih =>
    by_cases h : keep a ln (n + k)
    · rw [← add_assoc, cnt_succ_keep h]; omega
    · rw [← add_assoc, cnt_succ_not h]; omega

/-- A row of 2048 labels as a buffer's contents. -/
def toRow (g : ℕ → BitVec 32) : S2048.Idx → BitVec 32 := fun j => g (j 0).val
/-- A buffer's contents as a row of labels. -/
def ofRow (f : S2048.Idx → BitVec 32) : ℕ → BitVec 32 := fun n => if h : n < 2048 then f (Shape.ofLane (d := ![2048]) (⟨n, h⟩ : Fin 2048)) else 0#32

theorem toRow_ofRow (f : S2048.Idx → BitVec 32) : toRow (ofRow f) = f := by
  funext j
  unfold toRow ofRow
  rw [dif_pos (show (j 0).val < 2048 from (j 0).isLt)]
  congr 1; funext b; apply Fin.ext; rw [Subsingleton.elim b 0]; rfl

/-! ## One group of sixteen lanes -/

/-- A fold over the lanes in ascending order, by what it holds after each. -/
theorem foldl_finRange {β : Type} (m : ℕ) (r : ℕ → β) (f : β → Fin m → β) (h : ∀ k : Fin m, f (r k.val) k = r (k.val + 1)) :
    (List.finRange m).foldl f (r 0) = r m := by
  induction m with
  | zero => rfl
  | succ m ih =>
    rw [List.finRange_succ_last, List.foldl_append, List.foldl_map]
    have := ih (fun b k => f b k.castSucc) (fun k => h k.castSucc)
    rw [this]
    exact h (Fin.last m)

/-- The first lane of a scan is the vector's. -/
theorem scan_zero (kind : ScanKind) (v : IVec S16 32) (x : S16.Idx) (hx : (x 0).val = 0) : scan kind v x = v x := by
  unfold scan
  have h0 : x 0 = (0 : Fin 16) := Fin.ext hx
  have hx' : x = Shape.ofLane (d := ![16]) (0 : Fin 16) := by
    funext b; apply Fin.ext; rw [Subsingleton.elim b 0]; exact hx
  have hf : ((List.finRange 16).filter fun k => decide (0 < k.val ∧ k.val ≤ (0 : Fin 16).val)) = [] := by decide
  subst hx'
  exact (congrArg (fun l => List.foldl _ _ l) hf)

/-- Each further lane takes one step from the lane before it. -/
theorem scan_succ (kind : ScanKind) (v : IVec S16 32) (l : Fin 15) :
    scan kind v (Shape.ofLane (d := ![16]) (l.succ : Fin 16))
      = kind.step (scan kind v (Shape.ofLane (d := ![16]) (l.castSucc : Fin 16))) (v (Shape.ofLane (d := ![16]) (l.succ : Fin 16))) := by
  have hf : ∀ l : Fin 15, ((List.finRange 16).filter fun k => decide (0 < k.val ∧ k.val ≤ (l.succ : Fin 16).val))
      = ((List.finRange 16).filter fun k => decide (0 < k.val ∧ k.val ≤ (l.castSucc : Fin 16).val)) ++ [(l.succ : Fin 16)] := by decide
  unfold scan
  refine (congrArg (fun L => List.foldl _ _ L) (hf l)).trans ?_
  exact List.foldl_append ..

/-- Lane `l` of sixteen. -/
abbrev lane (l : Fin 16) : S16.Idx := Shape.ofLane (d := ![16]) l
/-- The lane a multi-index of sixteen names. -/
abbrev laneOf (x : S16.Idx) : Fin 16 := x 0

theorem lane_eq (x : S16.Idx) : x = lane (laneOf x) := by
  funext b; apply Fin.ext; rw [Subsingleton.elim b 0]; rfl

/-- A scan by what it holds at each lane. -/
theorem scan_eq (kind : ScanKind) (v : IVec S16 32) (r : ℕ → BitVec 32) (h0 : v (lane 0) = r 0)
    (h : ∀ l : Fin 15, kind.step (r l.val) (v (lane l.succ)) = r (l.val + 1)) (l : Fin 16) : scan kind v (lane l) = r l.val := by
  obtain ⟨k, hk⟩ := l
  induction k with
  | zero => rw [scan_zero kind v _ rfl]; exact h0
  | succ k ih =>
    have hk' : k < 15 := by omega
    have := scan_succ kind v ⟨k, hk'⟩
    refine this.trans ?_
    have e := ih (by omega)
    exact (congrArg (fun w => kind.step w _) e).trans (h ⟨k, hk'⟩)

variable {F : FTy → Type} [FloatOps F]

section Group

variable (v6 : Vec F S16 .i32) (tv : IVec S16 32) (v v' : Vec F S16 .i32) {n : ℕ}

/-- The group's vectors at position `n`: the length, the positions, the labels and the labels before them. -/
structure Grp (a : ℕ → BitVec 32) (ln : BitVec 32) (n : ℕ) (v6 : Vec F S16 .i32) (tv : IVec S16 32) (v v' : Vec F S16 .i32) : Prop where
  len : ∀ l : Fin 16, v6 (lane l) = ln
  pos : ∀ l : Fin 16, tv (lane l) = BitVec.ofNat 32 (n + l.val)
  lab : ∀ l : Fin 16, v (lane l) = a (n + l.val)
  prev : ∀ l : Fin 16, v' (lane l) = a (n + l.val - 1)

variable {v6 tv v v'}

theorem ofNat_eq_zero {k : ℕ} (h : k < 2048) : (BitVec.ofNat 32 k = 0#32) ↔ k = 0 := by
  constructor
  · intro e
    have := congrArg BitVec.toNat e
    simp only [BitVec.toNat_ofNat] at this
    omega
  · rintro rfl; rfl

theorem ofBool_and (p q : Bool) : (BitVec.ofBool p &&& BitVec.ofBool q) = BitVec.ofBool (p && q) := by cases p <;> cases q <;> rfl
theorem ofBool_or (p q : Bool) : (BitVec.ofBool p ||| BitVec.ofBool q) = BitVec.ofBool (p || q) := by cases p <;> cases q <;> rfl

/-- The group's mask is `keep`. -/
theorem mask_eq (hg : Grp a ln n v6 tv v v') (hn : n + 16 ≤ 2048) (l : Fin 16) :
    k1_pay10 v6 tv v v' (lane l) = BitVec.ofBool (decide (keep a ln (n + l.val))) := by
  have hp := ofNat_eq_zero (k := n + l.val) (by omega)
  show ((IntOp.cmpi .ne (v (lane l)) 0#32 &&& (IntOp.cmpi .ne (v (lane l)) (v' (lane l)) ||| IntOp.cmpi .eq (tv (lane l)) 0#32))
    &&& IntOp.cmpi .slt (tv (lane l)) (v6 (lane l))) = _
  rw [hg.len, hg.pos, hg.lab, hg.prev]
  unfold IntOp.cmpi
  simp only [ofBool_and, ofBool_or]
  congr 1
  rw [Bool.eq_iff_iff, decide_eq_true_iff]
  unfold keep
  simp only [Bool.and_eq_true, Bool.or_eq_true, bne_iff_ne, beq_iff_eq, decide_eq_true_eq, hp]
  tauto

/-- The running sum of the mask counts the kept positions of the group so far. -/
theorem sum_eq (hg : Grp a ln n v6 tv v v') (hn : n + 16 ≤ 2048) (l : Fin 16) :
    k1_pay11 v6 tv v v' (lane l) = BitVec.ofNat 32 (cnt a ln (n + l.val + 1) - cnt a ln n) := by
  have hw : ∀ k : Fin 16, extui 32 (k1_pay10 v6 tv v v') natLt_1_32 (lane k)
      = BitVec.ofNat 32 (cnt a ln (n + k.val + 1) - cnt a ln (n + k.val)) := by
    intro k
    show (k1_pay10 v6 tv v v' (lane k)).setWidth 32 = _
    rw [mask_eq hg hn k]
    by_cases h : keep a ln (n + k.val)
    · rw [cnt_succ_keep h, decide_eq_true h, Nat.add_sub_cancel_left]; rfl
    · rw [cnt_succ_not h, decide_eq_false h, Nat.sub_self]; rfl
  refine scan_eq .sum _ (fun l => BitVec.ofNat 32 (cnt a ln (n + l + 1) - cnt a ln n)) (hw 0) (fun k => ?_) l
  rw [hw]
  show BitVec.ofNat 32 _ + BitVec.ofNat 32 _ = BitVec.ofNat 32 _
  rw [← BitVec.ofNat_add]
  congr 1
  have h1 := cnt_mono (a := a) (ln := ln) (show n ≤ n + k.val + 1 by omega)
  have h2 := cnt_mono (a := a) (ln := ln) (show n + k.val + 1 ≤ n + (k.val + 1) + 1 by omega)
  show cnt a ln (n + k.val + 1) - cnt a ln n + (cnt a ln (n + (k.val + 1) + 1) - cnt a ln (n + (k.val + 1))) = _
  rw [← add_assoc n k.val 1] at *
  omega

theorem maxsi_pred {c : ℕ} (h : c ≤ 2048) : (IntOp.maxsi (BitVec.ofNat 32 c - 1#32) 0#32).toNat = c - 1 := by
  unfold IntOp.maxsi
  rcases c with _ | c
  · decide
  · have e : BitVec.ofNat 32 (c + 1) - 1#32 = BitVec.ofNat 32 c := by
      apply BitVec.eq_of_toNat_eq
      rw [BitVec.toNat_sub]; simp only [BitVec.toNat_ofNat]; omega
    rw [e]
    have hc : (BitVec.ofNat 32 c).toInt = c := by
      rw [BitVec.toInt_eq_toNat_of_lt (by rw [BitVec.toNat_ofNat]; omega), BitVec.toNat_ofNat]; omega
    split
    · rw [BitVec.toNat_ofNat]; omega
    · rename_i h0
      rw [BitVec.slt_iff_toInt_lt] at h0
      rw [hc] at h0
      simp at h0 ⊢
      omega

/-- The lanes' places: one below the count of kept positions through the lane's own. -/
theorem place_eq (hg : Grp a ln n v6 tv v v') (hn : n + 16 ≤ 2048) (l : Fin 16) :
    (k1_pay12 v6 (BitVec.ofNat 32 (cnt a ln n)) tv v v' (lane l)).toNat = cnt a ln (n + l.val + 1) - 1 := by
  show (IntOp.maxsi ((BitVec.ofNat 32 (cnt a ln n) + k1_pay11 v6 tv v v' (lane l)) - 1#32) 0#32).toNat = _
  rw [sum_eq hg hn l, ← BitVec.ofNat_add]
  have h1 := cnt_mono (a := a) (ln := ln) (show n ≤ n + l.val + 1 by omega)
  have h2 := cnt_le (a := a) (ln := ln) (n + l.val + 1)
  rw [show cnt a ln n + (cnt a ln (n + l.val + 1) - cnt a ln n) = cnt a ln (n + l.val + 1) by omega]
  exact maxsi_pred (by omega)

theorem place_lt (hg : Grp a ln n v6 tv v v') (hn : n + 16 ≤ 2048) :
    ∀ b x, ((![k1_pay12 v6 (BitVec.ofNat 32 (cnt a ln n)) tv v v'] : Fin 1 → IVec S16 32) b x).toNat < S2048.size b := by
  intro b x
  obtain rfl : b = 0 := Subsingleton.elim _ _
  rw [lane_eq x]
  show (k1_pay12 v6 (BitVec.ofNat 32 (cnt a ln n)) tv v v' (lane (laneOf x))).toNat < 2048
  rw [place_eq hg hn (laneOf x)]
  have hx : (laneOf x).val < 16 := (laneOf x).isLt
  have h2 := cnt_le (a := a) (ln := ln) (n + (laneOf x).val + 1)
  omega

/-- The indexed store of the group takes the buffer after `n` positions to the buffer after `n + 16`. -/
theorem store_eq (hg : Grp a ln n v6 tv v v') (hn : n + 16 ≤ 2048)
    (h : ∀ b x, ((![k1_pay12 v6 (BitVec.ofNat 32 (cnt a ln n)) tv v v'] : Fin 1 → IVec S16 32) b x).toNat < S2048.size b) :
    storeIdx (F := F) (e := .i32) (s := S2048) (d := ![16]) (toRow (outN a ln n)) ![k1_pay12 v6 (BitVec.ofNat 32 (cnt a ln n)) tv v v'] v (k1_pay10 v6 tv v v') false h
      = toRow (outN a ln (n + 16)) := by
  unfold storeIdx
  refine foldl_finRange 16 (fun l => toRow (outN a ln (n + l))) _ (fun l => ?_)
  show (if k1_pay10 v6 tv v v' (lane l) = 1 then _ else _) = _
  rw [mask_eq hg hn l]
  by_cases hk : keep a ln (n + l.val)
  · rw [decide_eq_true hk, if_pos (by rfl)]
    funext j
    refine Eq.trans ?_ (congrFun (congrArg toRow (outN_succ_keep hk).symm) j)
    have hpl : (k1_pay12 v6 (BitVec.ofNat 32 (cnt a ln n)) tv v v' (lane l)).toNat = cnt a ln (n + l.val) := by
      rw [place_eq hg hn l, cnt_succ_keep hk]; rfl
    by_cases hj : (j 0).val = cnt a ln (n + l.val)
    · refine (if_pos ?_).trans ((hg.lab l).trans ?_)
      · intro b
        obtain rfl : b = 0 := Subsingleton.elim _ _
        exact hj.trans hpl.symm
      · unfold toRow; rw [hj, Function.update_self]
    · refine (if_neg ?_).trans ?_
      · intro hb; exact hj ((hb 0).trans hpl)
      · unfold toRow; rw [Function.update_of_ne hj]
  · rw [decide_eq_false hk, if_neg (by decide)]
    show toRow (outN a ln (n + l.val)) = toRow (outN a ln (n + l.val + 1))
    rw [outN_succ_not hk]

theorem flip_max : ∀ c d : Fin 17, c ≤ d →
    IntOp.maxui (BitVec.ofNat 32 c.val ^^^ 2147483648#32) (BitVec.ofNat 32 d.val ^^^ 2147483648#32) = BitVec.ofNat 32 d.val ^^^ 2147483648#32 := by decide

/-- The group's last running maximum is the number of positions the group kept. -/
theorem last_eq (hg : Grp a ln n v6 tv v v') (hn : n + 16 ≤ 2048) :
    extractAt ![15] (k1_pay13 v6 tv v v') inpos_S16_p15 = BitVec.ofNat 32 (cnt a ln (n + 16) - cnt a ln n) := by
  have hc : ∀ k : ℕ, k < 16 → cnt a ln (n + k + 1) - cnt a ln n < 17 := by
    intro k hk
    have := cnt_add_le (a := a) (ln := ln) n (k + 1)
    rw [← add_assoc] at this
    omega
  have hw : ∀ l : Fin 16, xori (k1_pay11 v6 tv v v') (broadcast S16 2147483648#32) (lane l)
      = BitVec.ofNat 32 (cnt a ln (n + l.val + 1) - cnt a ln n) ^^^ 2147483648#32 := by
    intro l
    show k1_pay11 v6 tv v v' (lane l) ^^^ 2147483648#32 = _
    rw [sum_eq hg hn l]
  have hs := scan_eq .max _ (fun l => BitVec.ofNat 32 (cnt a ln (n + l + 1) - cnt a ln n) ^^^ 2147483648#32) (hw 0)
    (fun k => by
      rw [hw]
      exact flip_max ⟨_, hc k.val (by omega)⟩ ⟨_, hc (k.val + 1) (by omega)⟩
        (Nat.sub_le_sub_right (cnt_mono (by omega)) _)) 15
  show scan .max (xori (k1_pay11 v6 tv v v') (broadcast S16 2147483648#32)) _ ^^^ 2147483648#32 = _
  have hl : (fun b => ⟨(![15] : Fin 1 → ℕ) b, inpos_S16_p15 b⟩ : S16.Idx) = lane 15 := by
    funext b; apply Fin.ext; rw [Subsingleton.elim b 0]; rfl
  refine (congrArg (fun y => scan .max (xori (k1_pay11 v6 tv v v') (broadcast S16 2147483648#32)) y ^^^ 2147483648#32) hl).trans ?_
  rw [hs, BitVec.xor_assoc, BitVec.xor_self, BitVec.xor_zero]
  rfl

theorem base_eq (n : ℕ) : BitVec.ofNat 32 (cnt a ln n) + BitVec.ofNat 32 (cnt a ln (n + 16) - cnt a ln n) = BitVec.ofNat 32 (cnt a ln (n + 16)) := by
  rw [← BitVec.ofNat_add]; congr 1
  have := cnt_mono (a := a) (ln := ln) (show n ≤ n + 16 by omega)
  omega

end Group

end Cert.Proof.Compact
-- ==== Proof.Setup.lean ====
/-
  The set-up of the run of the compaction kernel's program: the machine's configuration as the launch theorem sees it,
  the resource algebra (the handshakes' rounds, the pipelines' rounds, the transfers' counters), the arrays by name, the
  rows in which the SparseCore's tasks hold them, and what the handshakes carry.
-/
module

public import proofs.«01_k».proof.Defs
public import proofs.«01_k».proof.Proof.Compact
public import Idealize.ShloMosaic.Lib.SparseCore.Quiescent
public import Idealize.ShloMosaic.Lib.SparseCore.Ops
public import Idealize.ShloMosaic.Lib.StableHlo.Run
public import Idealize.ShloMosaic.Lib.Pipeline.Regions
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.Run

open Cert.KernelIdeal Cert.KernelIdeal.Gen Cert.Proof.Compact

open Idealize.ShloMosaic
open Idealize.ShloMosaic.SparseCore (S V T)
open Idealize.ShloMosaic.SparseCore.Cfg (HIx Pay)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the SparseCore configuration's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds in the machine's algebra. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipelines' rounds in the machine's algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The array of first argmaxes (one row per sequence), the lengths (the argument), the compacted paths and the output
    lengths (one row of sixteen equal words per sequence), as locations of device `d`. -/
abbrev aLoc (d : Dev nD) : Loc nD τ sig := (SparseCore.T d).loc main_v1_0
abbrev bLoc (d : Dev nD) : Loc nD τ sig := (SparseCore.T d).loc main_arg1
abbrev pLoc (d : Dev nD) : Loc nD τ sig := (SparseCore.T d).loc main_v2_0
abbrev oLoc (d : Dev nD) : Loc nD τ sig := (SparseCore.T d).loc main_v2_1

/-! ## Rows as functions of a natural number -/

/-- Row `w` of an array of 16 rows of 2048 words. -/
def rowOf (A : S16x2048.Idx → BitVec 32) (w : ℕ) : ℕ → BitVec 32 :=
  fun n => if h : w < 16 ∧ n < 2048 then A (ix2 (⟨w, h.1⟩ : Fin 16) (⟨n, h.2⟩ : Fin 2048)) else 0#32
/-- Word `w` of an array of 16 words. -/
def lenOf (B : S16.Idx → BitVec 32) (w : ℕ) : BitVec 32 :=
  if h : w < 16 then B (ix1 (⟨w, h⟩ : Fin 16)) else 0#32

/-- The compacted paths of all sixteen rows: row `w` is `outN` of row `w` of `A` after all 2048 steps. -/
def pathsOf (A : S16x2048.Idx → BitVec 32) (B : S16.Idx → BitVec 32) : S16x2048.Idx → BitVec 32 :=
  fun j => outN (rowOf A (j 0).val) (lenOf B (j 0).val) 2048 (j 1).val
/-- The output lengths: row `w` holds the number of kept steps of row `w` in each of its sixteen words. -/
def lensOf (A : S16x2048.Idx → BitVec 32) (B : S16.Idx → BitVec 32) : S16x16.Idx → BitVec 32 :=
  fun j => BitVec.ofNat 32 (cnt (rowOf A (j 0).val) (lenOf B (j 0).val) 2048)

/-- The elements of row `w` of a 16 by 2048 array. -/
def rowSet (w : ℕ) : Finset S16x2048.Idx := Finset.univ.filter fun j => (j 0).val = w
/-- The elements of row `w` of a 16 by 16 array. -/
def rowSetO (w : ℕ) : Finset S16x16.Idx := Finset.univ.filter fun j => (j 0).val = w

/-! ## What the handshakes carry -/

variable (A : Dev nD → S16x2048.Idx → BitVec 32)

/-- What the task of row `w` is given: its row of the argmaxes, a read share of the lengths, its rows of the two
    results at their launch contents. -/
def rowIn (d : Dev nD) (w : ℕ) : sProp 𝕄 :=
  iprop((aLoc d ↦[rowSet w]{fullShare} A d) ∗ (bLoc d ↦{Transfers.shareTokN fullShare w} m (bLoc d))
    ∗ (pLoc d ↦[rowSet w]{fullShare} m (pLoc d)) ∗ (oLoc d ↦[rowSetO w]{fullShare} m (oLoc d)))
/-- What it brings back: the same with its rows of the two results at the compacted path and its length. -/
def rowOut (d : Dev nD) (w : ℕ) : sProp 𝕄 :=
  iprop((aLoc d ↦[rowSet w]{fullShare} A d) ∗ (bLoc d ↦{Transfers.shareTokN fullShare w} m (bLoc d))
    ∗ (pLoc d ↦[rowSet w]{fullShare} pathsOf (A d) (m (bLoc d))) ∗ (oLoc d ↦[rowSetO w]{fullShare} lensOf (A d) (m (bLoc d))))

instance rowIn_storable (d : Dev nD) (w : ℕ) : BI.Storable (upEmb : UEmb _ 𝕄) (rowIn m A d w) := by unfold rowIn; infer_instance
instance rowOut_storable (d : Dev nD) (w : ℕ) : BI.Storable (upEmb : UEmb _ 𝕄) (rowOut m A d w) := by unfold rowOut; infer_instance

/-- The row the subcore `i` of SparseCore `c` works on, where it works. -/
abbrev wid (c i : ℕ) : ℕ := i * 2 + c

/-- The task of subcore `i` of SparseCore `c` is given and brings back its row where `i` is below 8, nothing otherwise. -/
def taskIn (d : Dev nD) (c i : ℕ) : sProp 𝕄 := if i < 8 then rowIn m A d (wid c i) else iprop(emp)
def taskOut (d : Dev nD) (c i : ℕ) : sProp 𝕄 := if i < 8 then rowOut m A d (wid c i) else iprop(emp)

instance taskIn_storable (d : Dev nD) (c i : ℕ) : BI.Storable (upEmb : UEmb _ 𝕄) (taskIn m A d c i) := by
  unfold taskIn; split <;> infer_instance
instance taskOut_storable (d : Dev nD) (c i : ℕ) : BI.Storable (upEmb : UEmb _ 𝕄) (taskOut m A d c i) := by
  unfold taskOut; split <;> infer_instance

theorem nSub_zero : (K (F := F)).nSub 0 = 16 := rfl
theorem nCore_zero : (K (F := F)).nCore 0 = 2 := rfl

/-- The one call: each task's resources go out and come back; a SparseCore's are its sixteen tasks'. -/
def P : (K (F := F)).Pay (nD := nD) (Val := Elt F) (Name := ℕ) (U := UU) where
  st := fun q d c => match q with | 0 => bigSep Finset.univ fun i : Fin 16 => taskIn m A d c.val i.val
  dn := fun q d c => match q with | 0 => bigSep Finset.univ fun i : Fin 16 => taskOut m A d c.val i.val
  go := fun q d c i => match q with | 0 => taskIn m A d c.val i.val
  td := fun q d c i => match q with | 0 => taskOut m A d c.val i.val
  x := fun _ _ => iprop(emp)

instance P_storable : (P (F := F) m A).IsStorable where
  st q d c := match q with
    | 0 => (inferInstance : BI.Storable (upEmb : UEmb _ 𝕄) (bigSep Finset.univ fun i : Fin 16 => taskIn m A d c.val i.val))
  dn q d c := match q with
    | 0 => (inferInstance : BI.Storable (upEmb : UEmb _ 𝕄) (bigSep Finset.univ fun i : Fin 16 => taskOut m A d c.val i.val))
  go q d c i := match q with | 0 => (inferInstance : BI.Storable (upEmb : UEmb _ 𝕄) (taskIn m A d c.val i.val))
  td q d c i := match q with | 0 => (inferInstance : BI.Storable (upEmb : UEmb _ 𝕄) (taskOut m A d c.val i.val))

/-- A SparseCore's share is its tasks' shares: splitting it among the tasks and collecting it again changes nothing. -/
theorem vecSplit : (K (F := F)).VecSplit' (P m A) 0 := by
  intro d c
  show (bigSep Finset.univ fun i : Fin 16 => taskIn m A d c.val i.val)
    ⊢ |={Set.univ}=> iprop((bigSep Finset.univ fun i : Fin 16 => taskIn m A d c.val i.val)
      ∗ ((bigSep Finset.univ fun i : Fin 16 => taskOut m A d c.val i.val) -∗ bigSep Finset.univ fun i : Fin 16 => taskOut m A d c.val i.val))
  iintro H
  imodintro
  isplitl [H]; · iexact H
  iintro H; iexact H

end Cert.Proof.Run
-- ==== Proof.TileGeom.lean ====
/-
  One task of the compaction kernel, the geometry of its memory: the row of each array it slices, as a set of elements and
  as the function a copy reads or leaves there, its scratch buffers, and its copies' semaphores.
-/
module

public import proofs.«01_k».proof.Proof.Setup

@[expose] public section

set_option maxRecDepth 16384

noncomputable section

namespace Cert.Proof.Run

open Cert.KernelIdeal Cert.KernelIdeal.Gen Cert.Proof.Compact

open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
/-- The row of the task at grid coordinates `L`. -/
abbrev widL (L : grid1.Coords) : ℕ := wid (L 0).val (L 1).val

/-- A task works exactly where its subcore's number is below 8. -/
theorem cond_iff (L : grid1.Coords) : k1_cond1 L = 1#1 ↔ (L 1).val < 8 := by
  have h0 : ∀ (a : Fin 2) (b : Fin 16), k1_cond1 (fun | 0 => a | 1 => b | ⟨_+2, h⟩ => absurd h (Nat.not_lt.2 (Nat.le_add_left _ _))) = 1#1 ↔ b.val < 8 := by
    decide +kernel
  have e : L = (fun | 0 => L 0 | 1 => L 1 | ⟨_+2, h⟩ => absurd h (Nat.not_lt.2 (Nat.le_add_left _ _))) := by
    funext a; match a with | 0 => rfl | 1 => rfl
  rw [e]; exact h0 (L 0) (L 1)

theorem wid_lt {L : grid1.Coords} (h : k1_cond1 L = 1#1) : widL L < 16 := by
  have h1 := (cond_iff L).mp h
  have h0 : (L 0).val < 2 := (L 0).isLt
  show (L 1).val * 2 + (L 0).val < 16
  omega

abbrev aV : Memref sig .scVector .hbm S16x2048 .i32 := Memref.whole main_v1_0_scv
abbrev bV : Memref sig .scVector .hbm S16 .i32 := Memref.whole main_arg1_scv
abbrev pV : Memref sig .scVector .hbm S16x2048 .i32 := Memref.whole main_v2_0_scv
abbrev oV : Memref sig .scVector .hbm S16x16 .i32 := Memref.whole main_v2_1_scv
/-- The scratch buffers: the row read, the row compacted in place, the lengths, the count spread over sixteen lanes. -/
abbrev s6 : Memref sig .scVector .vmem S2048 .i32 := Memref.whole cc1_scratch0
abbrev s7 : Memref sig .scVector .vmem S2048 .i32 := Memref.whole cc1_scratch1
abbrev s8 : Memref sig .scVector .vmem S16 .i32 := Memref.whole cc1_scratch2
abbrev s9 : Memref sig .scVector .vmem S16 .i32 := Memref.whole cc1_scratch3

section Rows

variable (d : Dev nD) (L : grid1.Coords) (h1 : k1_cond1 L = 1#1)

abbrev aRowK : Memref sig .scVector .hbm S2048 .i32 :=
  ((aV : Memref sig .scVector .hbm S16x2048 .i32).slice (Rect.unit (s := S16x2048) (k1_off1 L) S1x2048.size (k1_off1_inb L h1)) (fun _ => rfl)).squeeze S2048 squeezes_S1x2048_S2048
abbrev pRowK : Memref sig .scVector .hbm S2048 .i32 :=
  ((pV : Memref sig .scVector .hbm S16x2048 .i32).slice (Rect.unit (s := S16x2048) (k1_off4 L) S1x2048.size (k1_off4_inb L h1)) (fun _ => rfl)).squeeze S2048 squeezes_S1x2048_S2048
abbrev oRowK : Memref sig .scVector .hbm S16 .i32 :=
  ((oV : Memref sig .scVector .hbm S16x16 .i32).slice (Rect.unit (s := S16x16) (k1_off5 L) S1x16.size (k1_off5_inb L h1)) (fun _ => rfl)).squeeze S16 squeezes_S1x16_S16

/-- A row index squeezed from a one-row array is the pair with first coordinate 0. -/
theorem reshape_row {n : ℕ} (h : (⟨1, ![n]⟩ : Shape).numel = (⟨2, ![1, n]⟩ : Shape).numel) (c : Fin n) :
    Shape.reshapeEquiv h (ix1 c) = ix2 (0 : Fin 1) c := by
  refine Shape.reshapeEquiv_eq_of_rowMajor h ?_
  rw [Shape.rowMajor_val_two, Shape.rowMajor_val_one]
  show (0 : ℕ) * n + c.val = c.val
  omega

/-- Where the slice of a 16-row array at a row places a column. -/
theorem emb_row {N : ℕ} {off : Fin 2 → ℕ} {w : ℕ} (hw : w < 16) (ho : off = ![w, 0])
    (inb : ∀ a, off a + (![1, N] : Fin 2 → ℕ) a ≤ (⟨2, ![16, N]⟩ : Shape).size a) (c : Fin N) :
    (Rect.unit (s := ⟨2, ![16, N]⟩) off ![1, N] inb).emb (ix2 (0 : Fin 1) c) = ix2 (⟨w, hw⟩ : Fin 16) c := by
  subst ho
  funext a
  match a with
  | ⟨0, _⟩ => exact Fin.ext (show w + 1 * 0 = w by omega)
  | ⟨1, _⟩ => exact Fin.ext (show 0 + 1 * c.val = c.val by omega)

theorem emb_aRowK (c : Fin 2048) : (aRowK L h1).view.emb (ix1 c) = ix2 (⟨widL L, wid_lt h1⟩ : Fin 16) c := by
  refine Eq.trans (congrArg (Rect.unit (s := S16x2048) (k1_off1 L) S1x2048.size (k1_off1_inb L h1)).emb (reshape_row (n := 2048) _ c)) ?_
  exact emb_row (N := 2048) (wid_lt h1) ((k1_off1_eq L).trans (by rw [Nat.mul_comm])) _ c
theorem emb_pRowK (c : Fin 2048) : (pRowK L h1).view.emb (ix1 c) = ix2 (⟨widL L, wid_lt h1⟩ : Fin 16) c := by
  refine Eq.trans (congrArg (Rect.unit (s := S16x2048) (k1_off4 L) S1x2048.size (k1_off4_inb L h1)).emb (reshape_row (n := 2048) _ c)) ?_
  exact emb_row (N := 2048) (wid_lt h1) ((k1_off4_eq L).trans (by rw [Nat.mul_comm])) _ c
theorem emb_oRowK (c : Fin 16) : (oRowK L h1).view.emb (ix1 c) = ix2 (⟨widL L, wid_lt h1⟩ : Fin 16) c := by
  refine Eq.trans (congrArg (Rect.unit (s := S16x16) (k1_off5 L) S1x16.size (k1_off5_inb L h1)).emb (reshape_row (n := 16) _ c)) ?_
  exact emb_row (N := 16) (wid_lt h1) ((k1_off5_eq L).trans (by rw [Nat.mul_comm])) _ c

theorem set_aRowK : (aRowK L h1).view.set = rowSet (widL L) := by
  ext i
  unfold View.set rowSet
  simp only [Finset.mem_map, Finset.mem_univ, true_and, Finset.mem_filter]
  constructor
  · rintro ⟨j, rfl⟩
    obtain ⟨c, rfl⟩ : ∃ c : Fin 2048, j = ix1 c := ⟨j 0, eq_ix1 j⟩
    exact congrArg (fun z => (z 0).val) (emb_aRowK L h1 c)
  · intro h
    refine ⟨ix1 (i 1), (emb_aRowK L h1 (i 1)).trans ?_⟩
    refine Eq.trans ?_ (eq_ix2 i).symm
    exact congrArg (fun z => ix2 z (i 1)) (Fin.ext h.symm)
theorem set_pRowK : (pRowK L h1).view.set = rowSet (widL L) := by
  ext i
  unfold View.set rowSet
  simp only [Finset.mem_map, Finset.mem_univ, true_and, Finset.mem_filter]
  constructor
  · rintro ⟨j, rfl⟩
    obtain ⟨c, rfl⟩ : ∃ c : Fin 2048, j = ix1 c := ⟨j 0, eq_ix1 j⟩
    exact congrArg (fun z => (z 0).val) (emb_pRowK L h1 c)
  · intro h
    refine ⟨ix1 (i 1), (emb_pRowK L h1 (i 1)).trans ?_⟩
    refine Eq.trans ?_ (eq_ix2 i).symm
    exact congrArg (fun z => ix2 z (i 1)) (Fin.ext h.symm)
theorem set_oRowK : (oRowK L h1).view.set = rowSetO (widL L) := by
  ext i
  unfold View.set rowSetO
  simp only [Finset.mem_map, Finset.mem_univ, true_and, Finset.mem_filter]
  constructor
  · rintro ⟨j, rfl⟩
    obtain ⟨c, rfl⟩ : ∃ c : Fin 16, j = ix1 c := ⟨j 0, eq_ix1 j⟩
    exact congrArg (fun z => (z 0).val) (emb_oRowK L h1 c)
  · intro h
    refine ⟨ix1 (i 1), (emb_oRowK L h1 (i 1)).trans ?_⟩
    refine Eq.trans ?_ (eq_ix2 i).symm
    exact congrArg (fun z => ix2 z (i 1)) (Fin.ext h.symm)

theorem rowOf_apply (A : S16x2048.Idx → BitVec 32) {w : ℕ} (hw : w < 16) (c : Fin 2048) : rowOf A w c.val = A (ix2 (⟨w, hw⟩ : Fin 16) c) := by
  have hc : w < 16 ∧ c.val < 2048 := ⟨hw, c.isLt⟩
  unfold rowOf
  rw [dif_pos hc]
theorem lenOf_apply (B : S16.Idx → BitVec 32) {w : ℕ} (hw : w < 16) : lenOf B w = B (ix1 (⟨w, hw⟩ : Fin 16)) := by
  unfold lenOf
  rw [dif_pos hw]

/-- What a copy out of the task's row of `A` reads: the row. -/
theorem read_aRowK (A : S16x2048.Idx → BitVec 32) : (aRowK L h1).view.read (Elt F) A = toRow (rowOf A (widL L)) := by
  funext j
  obtain ⟨c, rfl⟩ : ∃ c : Fin 2048, j = ix1 c := ⟨j 0, eq_ix1 j⟩
  refine ((View.read_apply _ _).trans (cast_eq _ _)).trans ?_
  rw [emb_aRowK]
  exact (rowOf_apply A (wid_lt h1) c).symm

/-- What a copy of `outN … 2048` into the task's row of the paths leaves there. -/
theorem write_pRowK (A f : S16x2048.Idx → BitVec 32) (B : S16.Idx → BitVec 32) :
    ∀ i ∈ rowSet (widL L), (pRowK L h1).view.write (Elt F) f (toRow (outN (rowOf A (widL L)) (lenOf B (widL L)) 2048)) Finset.univ i
      = pathsOf A B i := by
  intro i hi
  rw [← set_pRowK L h1] at hi
  obtain ⟨j, -, rfl⟩ := Finset.mem_map.mp hi
  obtain ⟨c, rfl⟩ : ∃ c : Fin 2048, j = ix1 c := ⟨j 0, eq_ix1 j⟩
  refine ((View.write_emb_of_mem _ _ (Finset.mem_univ _)).trans (cast_eq _ _)).trans ?_
  rw [emb_pRowK]
  rfl
/-- What a copy of the count spread over sixteen lanes into the task's row of the lengths leaves there. -/
theorem write_oRowK (A : S16x2048.Idx → BitVec 32) (f : S16x16.Idx → BitVec 32) (B : S16.Idx → BitVec 32) :
    ∀ i ∈ rowSetO (widL L), (oRowK L h1).view.write (Elt F) f (k1_pay14 (BitVec.ofNat 32 (cnt (rowOf A (widL L)) (lenOf B (widL L)) 2048))) Finset.univ i
      = lensOf A B i := by
  intro i hi
  rw [← set_oRowK L h1] at hi
  obtain ⟨j, -, rfl⟩ := Finset.mem_map.mp hi
  obtain ⟨c, rfl⟩ : ∃ c : Fin 16, j = ix1 c := ⟨j 0, eq_ix1 j⟩
  refine ((View.write_emb_of_mem _ _ (Finset.mem_univ _)).trans (cast_eq _ _)).trans ?_
  rw [emb_oRowK]
  rfl

end Rows

section Pts

variable (d : Dev nD) (L : grid1.Coords) (h1 : k1_cond1 L = 1#1)

theorem pts_aRowK (f : Buf (Elt F) (aLoc d)) :
    ((aRowK L h1).view.loc (V d (cV L) (jV L)) ↦[(aRowK L h1).view.set]{fullShare} f : sProp 𝕄) = aLoc d ↦[rowSet (widL L)]{fullShare} f := by
  rw [set_aRowK]
theorem pts_pRowK (f : Buf (Elt F) (pLoc d)) :
    ((pRowK L h1).view.loc (V d (cV L) (jV L)) ↦[(pRowK L h1).view.set]{fullShare} f : sProp 𝕄) = pLoc d ↦[rowSet (widL L)]{fullShare} f := by
  rw [set_pRowK]
theorem pts_oRowK (f : Buf (Elt F) (oLoc d)) :
    ((oRowK L h1).view.loc (V d (cV L) (jV L)) ↦[(oRowK L h1).view.set]{fullShare} f : sProp 𝕄) = oLoc d ↦[rowSetO (widL L)]{fullShare} f := by
  rw [set_oRowK]
theorem pts_bV (q : PosShare TreeShare) (f : Buf (Elt F) (bLoc d)) :
    ((bV : Memref sig .scVector .hbm S16 .i32).view.loc (V d (cV L) (jV L)) ↦[(bV : Memref sig .scVector .hbm S16 .i32).view.set]{q} f : sProp 𝕄)
      = bLoc d ↦{q} f := by
  simp only [Memref.view_whole, View.set_whole]
theorem pts_s (b : Ref sig .scVector) (f : Buf (Elt F) ((V d (cV L) (jV L)).loc b)) :
    ((Memref.whole b).view.loc (V d (cV L) (jV L)) ↦[(Memref.whole b).view.set]{fullShare} f : sProp 𝕄) = (V d (cV L) (jV L)).loc b ↦{fullShare} f := by
  simp only [Memref.view_whole, View.set_whole]
theorem pts_s_access (b : Ref sig .scVector) (f : Buf (Elt F) ((V d (cV L) (jV L)).loc b)) :
    ((((Memref.whole b).access (.whole _))).loc (V d (cV L) (jV L)) ↦[((Memref.whole b).access (.whole _)).set]{fullShare} f : sProp 𝕄)
      = (V d (cV L) (jV L)).loc b ↦{fullShare} f := by
  rw [show ((Memref.whole b).access (.whole _)).set = Finset.univ from (View.set_slice_whole b _).trans (Rect.set_whole _)]

abbrev cell (s : DmaSems sig S_) : GSem nD τ sig := (V d (cV L) (jV L), .dma s.sem)

/-- A task's own semaphores: its five copies' and the rest. -/
theorem ownSems0_V :
    (ownSems0 (V d (cV L) (jV L)) : sProp 𝕄)
      = iprop(semVal (cell d L cc1_scoped0) 0 ∗ semVal (cell d L cc1_scoped1) 0 ∗ semVal (cell d L cc1_scoped2) 0 ∗ semVal (cell d L cc1_scoped3) 0
          ∗ semVal (cell d L cc1_scoped4) 0
          ∗ bigSep ((((((ownCells (V d (cV L) (jV L))).erase (cell d L cc1_scoped0)).erase (cell d L cc1_scoped1)).erase (cell d L cc1_scoped2)).erase
              (cell d L cc1_scoped3)).erase (cell d L cc1_scoped4)) fun g => semVal g 0) := by
  have hm : ∀ s : DmaSems sig S_, (SemLoc.dma s.sem : SemLoc sig).isScoped .scVector = true → cell d L s ∈ ownCells (V d (cV L) (jV L)) :=
    fun s h => (mem_ownCells (g := cell d L s)).mpr ⟨rfl, h⟩
  have hne : ∀ s s' : DmaSems sig S_, (SemLoc.dma s.sem : SemLoc sig) ≠ .dma s'.sem → cell d L s ≠ cell d L s' :=
    fun s s' h e => h (congrArg Prod.snd e)
  unfold SparseCore.Cfg.ownSems0
  rw [SparseCore.bigSep_erase' (hm cc1_scoped0 (by decide)),
    SparseCore.bigSep_erase' (Finset.mem_erase.mpr ⟨hne cc1_scoped1 cc1_scoped0 (by decide), hm cc1_scoped1 (by decide)⟩),
    SparseCore.bigSep_erase' (Finset.mem_erase.mpr ⟨hne cc1_scoped2 cc1_scoped1 (by decide), Finset.mem_erase.mpr ⟨hne cc1_scoped2 cc1_scoped0 (by decide), hm cc1_scoped2 (by decide)⟩⟩),
    SparseCore.bigSep_erase' (Finset.mem_erase.mpr ⟨hne cc1_scoped3 cc1_scoped2 (by decide), Finset.mem_erase.mpr ⟨hne cc1_scoped3 cc1_scoped1 (by decide),
      Finset.mem_erase.mpr ⟨hne cc1_scoped3 cc1_scoped0 (by decide), hm cc1_scoped3 (by decide)⟩⟩⟩),
    SparseCore.bigSep_erase' (Finset.mem_erase.mpr ⟨hne cc1_scoped4 cc1_scoped3 (by decide), Finset.mem_erase.mpr ⟨hne cc1_scoped4 cc1_scoped2 (by decide),
      Finset.mem_erase.mpr ⟨hne cc1_scoped4 cc1_scoped1 (by decide), Finset.mem_erase.mpr ⟨hne cc1_scoped4 cc1_scoped0 (by decide), hm cc1_scoped4 (by decide)⟩⟩⟩⟩)]

/-- A task's own buffers: its four scratch buffers, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have hm : ∀ b : Ref sig .scVector, ((Proc.scVector (cV L) (jV L)).devRef b).owner = .proc (.scVector (cV L) (jV L)) → (Proc.scVector (cV L) (jV L)).devRef b ∈ ownRefs (τ := τ) (.scVector (cV L) (jV L)) :=
    fun b h => SparseCore.Cfg.mem_ownRefs_of_owner (p := Proc.scVector (cV L) (jV L)) (b := (Proc.scVector (cV L) (jV L)).devRef b) h
  have hne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (hm cc1_scratch0 rfl)).trans ?_
  rw [SparseCore.bigSep_erase' (Finset.mem_erase.mpr ⟨hne cc1_scratch1 cc1_scratch0 (by decide), hm cc1_scratch1 rfl⟩),
    SparseCore.bigSep_erase' (Finset.mem_erase.mpr ⟨hne cc1_scratch2 cc1_scratch1 (by decide), Finset.mem_erase.mpr ⟨hne cc1_scratch2 cc1_scratch0 (by decide), hm cc1_scratch2 rfl⟩⟩),
    SparseCore.bigSep_erase' (Finset.mem_erase.mpr ⟨hne cc1_scratch3 cc1_scratch2 (by decide), Finset.mem_erase.mpr ⟨hne cc1_scratch3 cc1_scratch1 (by decide),
      Finset.mem_erase.mpr ⟨hne cc1_scratch3 cc1_scratch0 (by decide), hm cc1_scratch3 rfl⟩⟩⟩)]

end Pts

end Cert.Proof.Run
-- ==== Proof.Groups.lean ====
/-
  One task of the compaction kernel, the words its loop reads: the positions of a group of sixteen lanes, the labels and
  the labels before them — each as the function of the lane that the row arithmetic (`Grp`) asks for.
-/
module

public import proofs.«01_k».proof.Proof.TileGeom

@[expose] public section

set_option maxRecDepth 16384

noncomputable section

namespace Cert.Proof.Run

open Cert.KernelIdeal Cert.KernelIdeal.Gen Cert.Proof.Compact

open Idealize.ShloMosaic
open Idealize.ShloMosaic.ValueIdx (ix1 ix2 eq_ix1 eq_ix2)

variable {F : FTy → Type} [FloatOps F]

/-- The word a task computes its row's number into. -/
abbrev v1L (L : grid1.Coords) : BitVec 32 := Scalar.addi (Scalar.muli (BitVec.ofNat 32 (L 1).val) 2#32) (BitVec.ofNat 32 (L 0).val)

theorem v1L_toNat (L : grid1.Coords) : (v1L L).toNat = widL L := by
  have h0 : (L 0).val < 2 := (L 0).isLt
  have h1 : (L 1).val < 16 := (L 1).isLt
  show (BitVec.ofNat 32 (L 1).val * 2#32 + BitVec.ofNat 32 (L 0).val).toNat = (L 1).val * 2 + (L 0).val
  rw [BitVec.toNat_add, BitVec.toNat_mul, BitVec.toNat_ofNat, BitVec.toNat_ofNat, BitVec.toNat_ofNat]
  omega

/-- The lengths are read inside their sixteen words. -/
theorem chk1_ok (L : grid1.Coords) : k1_chk1 L (broadcast S16 (v1L L)) := by
  intro h1 a x
  obtain rfl : a = 0 := Subsingleton.elim _ _
  show (v1L L).toNat < 16
  rw [v1L_toNat]; exact wid_lt h1

/-- What the task reads of the lengths: its row's, in every lane. -/
theorem len_lane (L : grid1.Coords) (h1 : k1_cond1 L = 1#1) (B : Vec F S16 .i32) (h : ∀ a x, ((![broadcast S16 (v1L L)] : Fin 1 → IVec S16 32) a x).toNat < S16.size a)
    (l : Fin 16) : loadIdx B ![broadcast S16 (v1L L)] h (lane l) = lenOf B (widL L) := by
  rw [lenOf_apply (B := B) (wid_lt h1)]
  refine congrArg B (funext fun a => ?_)
  match a with
  | ⟨0, _⟩ => exact Fin.ext (v1L_toNat L)

/-- The word at a group's lane is the row's at its position. -/
theorem read_group (a : ℕ → BitVec 32) {off : Fin 1 → ℕ} {n : ℕ} (ho : off = ![n]) (inb : ∀ b, off b + S16.size b ≤ S2048.size b) (l : Fin 16) :
    (s6 : Memref sig .scVector .vmem S2048 .i32).view.readAt (Elt F) (Rect.unit (s := S2048) off S16.size inb).toLoadRect (toRow a) (lane l) = a (n + l.val) := by
  subst ho
  refine (View.readAt_apply ..).trans ?_
  show a (n + 1 * l.val) = a (n + l.val)
  rw [Nat.one_mul]

theorem trips_eq : k1_t1_loop.trips = 64 := by decide +kernel

abbrev v7V : IVec S16 32 := iota .scVector S16 32 [0] iota_S16_d0_w32_scVector

section Lanes

variable (t : Fin k1_t1_loop.trips) (l : Fin 16)

theorem trip_lt : t.val < 64 := trips_eq ▸ t.isLt

theorem pay1_lane : k1_pay1 v7V 0#32 1#32 t (lane l) = BitVec.ofNat 32 (32 * t.val + l.val) := by
  have ht := trip_lt t
  have hl := l.isLt
  show (0#32 + BitVec.ofNat 32 t.val * 1#32) * 32#32 + BitVec.ofNat 32 (0 * 16 + l.val) = _
  apply BitVec.eq_of_toNat_eq
  simp only [BitVec.toNat_add, BitVec.toNat_mul, BitVec.toNat_ofNat]
  omega
theorem pay7_lane : k1_pay7 v7V 0#32 1#32 t (lane l) = BitVec.ofNat 32 (32 * t.val + 16 + l.val) := by
  have ht := trip_lt t
  have hl := l.isLt
  show ((0#32 + BitVec.ofNat 32 t.val * 1#32) * 32#32 + 16#32) + BitVec.ofNat 32 (0 * 16 + l.val) = _
  apply BitVec.eq_of_toNat_eq
  simp only [BitVec.toNat_add, BitVec.toNat_mul, BitVec.toNat_ofNat]
  omega
theorem pay2_lane : (k1_pay2 v7V 0#32 1#32 t (lane l)).toNat = 32 * t.val + l.val - 1 := by
  have ht := trip_lt t
  have hl := l.isLt
  have h := maxsi_pred (c := 32 * t.val + l.val) (by omega)
  show (IntOp.maxsi (k1_pay1 v7V 0#32 1#32 t (lane l) - 1#32) 0#32).toNat = _
  rw [pay1_lane]
  exact h
theorem pay8_lane : (maxsi (k1_pay8 v7V 0#32 1#32 t) k1_pay9 (lane l)).toNat = 32 * t.val + 16 + l.val - 1 := by
  have ht := trip_lt t
  have hl := l.isLt
  have h := maxsi_pred (c := 32 * t.val + 16 + l.val) (by omega)
  show (IntOp.maxsi (k1_pay7 v7V 0#32 1#32 t (lane l) - 1#32) 0#32).toNat = _
  rw [pay7_lane]
  exact h

end Lanes

section Trip

variable (t : Fin k1_t1_loop.trips)

/-- The previous labels are read inside the row. -/
theorem chk2_ok (L : grid1.Coords) : k1_chk2 L (k1_pay2 v7V 0#32 1#32 t) := by
  intro h1 b x
  obtain rfl : b = 0 := Subsingleton.elim _ _
  have ht := trip_lt t
  have hx : (laneOf x).val < 16 := (laneOf x).isLt
  rw [lane_eq x]
  show (k1_pay2 v7V 0#32 1#32 t (lane (laneOf x))).toNat < 2048
  rw [pay2_lane]; omega
theorem chk4_ok (L : grid1.Coords) : k1_chk4 L (maxsi (k1_pay8 v7V 0#32 1#32 t) k1_pay9) := by
  intro h1 b x
  obtain rfl : b = 0 := Subsingleton.elim _ _
  have ht := trip_lt t
  have hx : (laneOf x).val < 16 := (laneOf x).isLt
  rw [lane_eq x]
  show (maxsi (k1_pay8 v7V 0#32 1#32 t) k1_pay9 (lane (laneOf x))).toNat < 2048
  rw [pay8_lane]; omega

variable (a : ℕ → BitVec 32) (ln : BitVec 32) (v6 : Vec F S16 .i32) (hv6 : ∀ l : Fin 16, v6 (lane l) = ln)
include hv6

/-- The first group of a trip stands at position `32 t`. -/
theorem grp1 (inb : ∀ b, k1_off2 t b + S16.size b ≤ S2048.size b)
    (h : ∀ b x, ((![k1_pay2 v7V 0#32 1#32 t] : Fin 1 → IVec S16 32) b x).toNat < S2048.size b) :
    Grp a ln (32 * t.val) v6 (k1_pay1 v7V 0#32 1#32 t)
      ((s6 : Memref sig .scVector .vmem S2048 .i32).view.readAt (Elt F) (Rect.unit (s := S2048) (k1_off2 t) S16.size inb).toLoadRect (toRow a))
      (loadIdx (F := F) (e := .i32) (toRow a) ![k1_pay2 v7V 0#32 1#32 t] h) where
  len := hv6
  pos l := pay1_lane t l
  lab l := read_group a (k1_off2_eq t) inb l
  prev l := congrArg a (pay2_lane t l)
/-- The second group of a trip stands at position `32 t + 16`. -/
theorem grp2 (inb : ∀ b, k1_off3 t b + S16.size b ≤ S2048.size b)
    (h : ∀ b x, ((![maxsi (k1_pay8 v7V 0#32 1#32 t) k1_pay9] : Fin 1 → IVec S16 32) b x).toNat < S2048.size b) :
    Grp a ln (32 * t.val + 16) v6 (k1_pay7 v7V 0#32 1#32 t)
      ((s6 : Memref sig .scVector .vmem S2048 .i32).view.readAt (Elt F) (Rect.unit (s := S2048) (k1_off3 t) S16.size inb).toLoadRect (toRow a))
      (loadIdx (F := F) (e := .i32) (toRow a) ![maxsi (k1_pay8 v7V 0#32 1#32 t) k1_pay9] h) where
  len := hv6
  pos l := pay7_lane t l
  lab l := read_group a (k1_off3_eq t) inb l
  prev l := congrArg a (pay8_lane t l)

end Trip

end Cert.Proof.Run
-- ==== Proof.Tile.lean ====
/-
  One task of the compaction kernel, run: from its row of the argmaxes, a share of the lengths and its rows of the two
  results it ends with the rows of the results at the compacted path and its length.
-/
module

public import proofs.«01_k».proof.Proof.Groups

@[expose] public section

set_option maxRecDepth 16384

noncomputable section

namespace Cert.Proof.Run

open Cert.KernelIdeal Cert.KernelIdeal.Gen Cert.Proof.Compact

open Idealize.ShloMosaic
open Idealize.ShloMosaic.SparseCore (S V T)
open Idealize.ShloMosaic.SparseCore.Cfg (HIx Pay ownBufs ownSems0 ownCells ownRefs mem_ownCells mem_ownRefs)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (A : Dev nD → S16x2048.Idx → BitVec 32)
variable (d : Dev nD) (L : grid1.Coords)

/-- The kernel's body on the task at grid coordinates `L`. -/
abbrev bodyV (L : grid1.Coords) :=
  cc1__sc_compact_body (F := F) L aV (Memref.isWhole_whole _) bV (Memref.isWhole_whole _) pV (Memref.isWhole_whole _) oV (Memref.isWhole_whole _)
    s6 (Memref.isWhole_whole _) s7 (Memref.isWhole_whole _) s8 (Memref.isWhole_whole _) s9 (Memref.isWhole_whole _)
    cc1_scoped0 cc1_scoped1 cc1_scoped2 cc1_scoped3 cc1_scoped4

/-- A scratch buffer a copy filled whole holds what the copy read. -/
theorem land_s (b : Ref sig .scVector) (f : Buf (Elt F) ((V d (cV L) (jV L)).loc b)) {g : b.ty.shape.Idx → Elt F b.ty.elt} (w : Buf (Elt F) ((V d (cV L) (jV L)).loc b)) (h : g = w) :
    ((Memref.whole b).view.loc (V d (cV L) (jV L)) ↦[(Memref.whole b).view.set]{fullShare} (Memref.whole b).view.writes (Elt F) f [⟨Rect.whole _, g⟩] : sProp 𝕄)
      = (V d (cV L) (jV L)).loc b ↦{fullShare} w := by
  subst h
  rw [pts_s]
  exact congrArg (fun z => (((V d (cV L) (jV L)).loc b) ↦{fullShare} z : sProp 𝕄)) (Memref.write_access_whole_univ (Elt F) b f g)

/-- A store of the whole fourth scratch buffer leaves what was stored. -/
theorem store_s9 (inb : ∀ a, (![0] : Fin 1 → ℕ) a + S16.size a ≤ S16.size a) (f g : S16.Idx → Elt F .i32) :
    ReadAs.same.apply (View.read (Elt F) (s9 : Memref sig .scVector .vmem S16 .i32).view
      ((Memref.whole cc1_scratch3).view.writes (Elt F) f [⟨Rect.unit (s := S16) ![0] S16.size inb, g⟩])) = g :=
  Memref.write_access_unit_zero_univ (Elt F) cc1_scratch3 (off := ![0]) (funext fun a => by fin_cases a; rfl) inb f g

/-- A row of the paths a copy filled with the compacted row is that row of the paths. -/
theorem land_p (k1_h1 : k1_cond1 L = 1#1) (f : Buf (Elt F) (pLoc d)) {g : S2048.Idx → Elt F .i32}
    (h : g = toRow (outN (rowOf (A d) (widL L)) (lenOf (m (bLoc d)) (widL L)) 2048)) :
    ((pRowK L k1_h1).view.loc (V d (cV L) (jV L)) ↦[(pRowK L k1_h1).view.set]{fullShare} (pRowK L k1_h1).view.writes (Elt F) f [⟨Rect.whole S2048, g⟩] : sProp 𝕄)
      = pLoc d ↦[rowSet (widL L)]{fullShare} pathsOf (A d) (m (bLoc d)) := by
  subst h
  refine (pts_pRowK (F := F) d L k1_h1 _).trans (pointsTo_congr fun i hi => ?_)
  exact (congrFun (View.write_univ_eq_writes_whole (Val := Elt F) (pRowK L k1_h1).view f [] _) i).symm.trans (write_pRowK L k1_h1 (A d) f (m (bLoc d)) i hi)

/-- A row of the lengths a copy filled with the number of kept positions is that row of the lengths. -/
theorem land_o (k1_h1 : k1_cond1 L = 1#1) (f : Buf (Elt F) (oLoc d)) {g : S16.Idx → Elt F .i32}
    (h : g = k1_pay14 (BitVec.ofNat 32 (cnt (rowOf (A d) (widL L)) (lenOf (m (bLoc d)) (widL L)) 2048))) :
    ((oRowK L k1_h1).view.loc (V d (cV L) (jV L)) ↦[(oRowK L k1_h1).view.set]{fullShare} (oRowK L k1_h1).view.writes (Elt F) f [⟨Rect.whole S16, g⟩] : sProp 𝕄)
      = oLoc d ↦[rowSetO (widL L)]{fullShare} lensOf (A d) (m (bLoc d)) := by
  subst h
  refine (pts_oRowK (F := F) d L k1_h1 _).trans (pointsTo_congr fun i hi => ?_)
  exact (congrFun (View.write_univ_eq_writes_whole (Val := Elt F) (oRowK L k1_h1).view f [] _) i).symm.trans (write_oRowK L k1_h1 (A d) f (m (bLoc d)) i hi)

/-- The loop's invariant at trip `t`: the carried word is the number of kept positions among the first `32 t`, the first
    scratch buffer holds the row, the second the row with its first `32 t` positions compacted. -/
def inv (a : ℕ → BitVec 32) (ln : BitVec 32) (t : ℕ) (c : BitVec 32) : sProp 𝕄 :=
  iprop(⌜c = BitVec.ofNat 32 (cnt a ln (32 * t))⌝ ∗ ((V d (cV L) (jV L)).loc cc1_scratch0 ↦{fullShare} toRow a)
    ∗ (V d (cV L) (jV L)).loc cc1_scratch1 ↦{fullShare} toRow (outN a ln (32 * t)))

theorem read_s6 (f : Buf (Elt F) ((V d (cV L) (jV L)).loc cc1_scratch0)) : ((s6 : Memref sig .scVector .vmem S2048 .i32).access (.whole S2048)).read (Elt F) f = f :=
  Memref.read_access_whole (Elt F) cc1_scratch0 f
/-- An indexed store into the second scratch buffer leaves the scatter of its contents. -/
theorem write_s7 (f : Buf (Elt F) ((V d (cV L) (jV L)).loc cc1_scratch1)) (idxs : Fin S2048.rank → IVec S16 32) (v : Vec F S16 .i32) (k : IVec S16 1)
    (h : ∀ a x, (idxs a x).toNat < S2048.size a) :
    ((s7 : Memref sig .scVector .vmem S2048 .i32).access (.whole S2048)).write (Elt F) f
        (storeIdx (d := ![16]) (((s7 : Memref sig .scVector .vmem S2048 .i32).access (.whole S2048)).read (Elt F) f) idxs v k false h) Finset.univ
      = storeIdx (F := F) (e := .i32) (s := S2048) (d := ![16]) f idxs v k false h :=
  (Memref.write_access_whole_univ (Elt F) cc1_scratch1 f _).trans
    (congrArg (fun g => storeIdx (F := F) (e := .i32) (s := S2048) (d := ![16]) g idxs v k false h) (Memref.read_access_whole (Elt F) cc1_scratch1 f))

/-- One trip of the loop: two groups of sixteen positions. -/
theorem trip (k1_h1 : k1_cond1 L = 1#1) (a : ℕ → BitVec 32) (ln : BitVec 32) (v6 : Vec F S16 .i32) (hv6 : ∀ l : Fin 16, v6 (lane l) = ln)
    (t : Fin k1_t1_loop.trips) (c : BitVec 32) :
    inv (F := F) d L a ln t.val c
      ⊢ wp frame (wpE (defs₀ (F := F)) 𝒱₀ (V d (cV L) (jV L)) none) Set.univ
          (k1_t1_body (F := F) L aV (Memref.isWhole_whole _) bV (Memref.isWhole_whole _) pV (Memref.isWhole_whole _) oV (Memref.isWhole_whole _)
            s6 (Memref.isWhole_whole _) s7 (Memref.isWhole_whole _) s8 (Memref.isWhole_whole _) s9 (Memref.isWhole_whole _)
            cc1_scoped0 cc1_scoped1 cc1_scoped2 cc1_scoped3 cc1_scoped4 (v1L L) k1_h1 v6 v7V t c)
          fun c' => inv d L a ln (t.val + 1) c' := by
  have ht := trip_lt t
  unfold inv
  iintro ⟨%hc, H6, H7⟩
  obtain rfl := hc
  unfold k1_t1_body
  rw [k1_part1_eq_skeleton]; unfold k1_part1_skel
  simp only [Prog.lift, Prog.bind_op, Prog.bind_ret, bind_assoc, Prog.pure_eq_ret]
  -- the first group
  iapply (wp_load 𝒱₀ (V d (cV L) (jV L)) none Set.univ (m := (s6 : Memref sig .scVector .vmem S2048 .i32)) (S := Finset.univ) (Finset.subset_univ _)) $$ H6
  iintro H6
  have hc2 := chk2_ok t L
  rw [wp_assume_of _ _ _ _ hc2]
  iapply (SparseCore.wp_vectorLoadIdx 𝒱₀ (V d (cV L) (jV L)) none Set.univ (base := (s6 : Memref sig .scVector .vmem S2048 .i32)) (S := Finset.univ) (q := fullShare) (f := toRow a) (Finset.subset_univ _)) $$ H6
  iintro H6
  rw [read_s6 d L]
  have hg := grp1 t a ln v6 hv6 (k1_off2_inb L t k1_h1) (k1_idx2_inb L _ hc2 k1_h1)
  generalize View.readAt (Elt F) (s6 : Memref sig .scVector .vmem S2048 .i32).view _ (toRow a) = v17 at hg ⊢
  generalize loadIdx (F := F) (e := .i32) (toRow a) _ _ = v22 at hg ⊢
  have hn : 32 * t.val + 16 ≤ 2048 := by omega
  have hc3 : k1_chk3 L (k1_pay5 v6 v7V 0#32 1#32 t (BitVec.ofNat 32 (cnt a ln (32 * t.val))) v17 v22) := fun _ => place_lt hg hn
  rw [wp_assume_of _ _ _ _ hc3]
  ihave H7 := (Entails.of_eq (pts_s_access (F := F) d L cc1_scratch1 _).symm) $$ H7
  iapply (SparseCore.wp_vectorStoreIdx 𝒱₀ (V d (cV L) (jV L)) none Set.univ (base := (s7 : Memref sig .scVector .vmem S2048 .i32))) $$ H7
  iintro H7
  rw [write_s7 d L, show storeIdx (F := F) (e := .i32) (s := S2048) (d := ![16]) (toRow (outN a ln (32 * t.val)))
      ![k1_pay5 v6 v7V 0#32 1#32 t (BitVec.ofNat 32 (cnt a ln (32 * t.val))) v17 v22] v17 (k1_pay3 v6 v7V 0#32 1#32 t v17 v22) false (k1_idx3_inb L _ hc3 k1_h1)
      = toRow (outN a ln (32 * t.val + 16)) from store_eq hg hn _]
  have hl1 : Scalar.addi (BitVec.ofNat 32 (cnt a ln (32 * t.val))) (extractAt ![15] (k1_pay6 v6 v7V 0#32 1#32 t v17 v22) inpos_S16_p15)
      = BitVec.ofNat 32 (cnt a ln (32 * t.val + 16)) :=
    (congrArg (fun z => BitVec.ofNat 32 (cnt a ln (32 * t.val)) + z) (last_eq hg hn)).trans (base_eq _)
  rw [hl1]
  -- the second group
  iapply (wp_load 𝒱₀ (V d (cV L) (jV L)) none Set.univ (m := (s6 : Memref sig .scVector .vmem S2048 .i32)) (S := Finset.univ) (Finset.subset_univ _)) $$ H6
  iintro H6
  have hc4 := chk4_ok t L
  rw [wp_assume_of _ _ _ _ hc4]
  iapply (SparseCore.wp_vectorLoadIdx 𝒱₀ (V d (cV L) (jV L)) none Set.univ (base := (s6 : Memref sig .scVector .vmem S2048 .i32)) (S := Finset.univ) (q := fullShare) (f := toRow a) (Finset.subset_univ _)) $$ H6
  iintro H6
  rw [read_s6 d L]
  have hg' := grp2 t a ln v6 hv6 (k1_off3_inb L t k1_h1) (k1_idx4_inb L _ hc4 k1_h1)
  generalize View.readAt (Elt F) (s6 : Memref sig .scVector .vmem S2048 .i32).view _ (toRow a) = v51 at hg' ⊢
  generalize loadIdx (F := F) (e := .i32) (toRow a) _ _ = v56 at hg' ⊢
  have hn' : 32 * t.val + 16 + 16 ≤ 2048 := by omega
  have hc5 : k1_chk5 L (k1_pay12 v6 (BitVec.ofNat 32 (cnt a ln (32 * t.val + 16))) (k1_pay7 v7V 0#32 1#32 t) v51 v56) := fun _ => place_lt hg' hn'
  rw [wp_assume_of _ _ _ _ hc5]
  iapply (SparseCore.wp_vectorStoreIdx 𝒱₀ (V d (cV L) (jV L)) none Set.univ (base := (s7 : Memref sig .scVector .vmem S2048 .i32))) $$ H7
  iintro H7
  rw [write_s7 d L, store_eq hg' hn' (k1_idx5_inb L _ hc5 k1_h1)]
  have hl2 : Scalar.addi (BitVec.ofNat 32 (cnt a ln (32 * t.val + 16))) (extractAt ![15] (k1_pay13 v6 (k1_pay7 v7V 0#32 1#32 t) v51 v56) inpos_S16_p15)
      = BitVec.ofNat 32 (cnt a ln (32 * t.val + 16 + 16)) :=
    (congrArg (fun z => BitVec.ofNat 32 (cnt a ln (32 * t.val + 16)) + z) (last_eq hg' hn')).trans (base_eq _)
  rw [hl2, wp_ret]
  imodintro
  rw [show 32 * (t.val + 1) = 32 * t.val + 16 + 16 by omega]
  isplitr; · ipureintro; rfl
  isplitl [H6]; · iexact H6
  iapply (Entails.of_eq (pts_s_access (F := F) d L cc1_scratch1 _)); iexact H7

/-- The task of a working subcore. -/
theorem tile_work (hF : (K (F := F)).Facts) (k1_h1 : k1_cond1 L = 1#1) (O : CellTallies nD τ sig (HIx 1)) (W : Waits sig (HIx 1)) (hO : ∀ g, O g none = 0) :
    iprop(levAts (K (F := F)).L (K (F := F)).lev ∗ emp ∗ rowIn m A d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyV L)
          fun _ => iprop(rowOut m A d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  unfold bodyV
  simp only [cc1__sc_compact_body_eq_skeleton]; unfold cc1__sc_compact_body_skel
  simp only [k1_part2_eq_skeleton]; unfold k1_part2_skel
  rw [(K (F := F)).scopedBufs_V hF d (cV L) (jV L), SparseCore.Cfg.scopedSems0_V (Val := Elt F) d (cV L) (jV L), ownSems0_V, ownBufs_V]
  unfold rowIn rowOut
  iintro ⟨#Hlv, -, ⟨Ha, Hb, Hp, Ho⟩, ⟨⟨%f6, H6⟩, ⟨%f7, H7⟩, ⟨%f8, H8⟩, ⟨%f9, H9⟩, Hbufs⟩, ⟨Hs0, Hs1, Hs2, Hs3, Hs4, Hsems⟩, HO⟩
  ihave Hmw := ((K (F := F)).mayWaits_none (thr := V d (cV L) (jV L)) hO) $$ Hlv
  ihave Ha := (Entails.of_eq (pts_aRowK (F := F) d L k1_h1 _).symm) $$ Ha
  ihave Hp := (Entails.of_eq (pts_pRowK (F := F) d L k1_h1 _).symm) $$ Hp
  ihave Ho := (Entails.of_eq (pts_oRowK (F := F) d L k1_h1 _).symm) $$ Ho
  ihave Hb := (Entails.of_eq (pts_bV (F := F) d L _ _).symm) $$ Hb
  ihave H6 := (Entails.of_eq (pts_s (F := F) d L cc1_scratch0 _).symm) $$ H6
  ihave H7 := (Entails.of_eq (pts_s (F := F) d L cc1_scratch1 _).symm) $$ H7
  ihave H8 := (Entails.of_eq (pts_s (F := F) d L cc1_scratch2 _).symm) $$ H8
  ihave H9 := (Entails.of_eq (pts_s (F := F) d L cc1_scratch3 _).symm) $$ H9
  sl_exec
  ihave H6 := (Entails.of_eq (land_s (F := F) d L cc1_scratch0 f6 (g := tile_work.sl.dma0 A d L k1_h1) (toRow (rowOf (A d) (widL L))) (read_aRowK L k1_h1 (A d)))) $$ H6
  ihave H7 := (Entails.of_eq (land_s (F := F) d L cc1_scratch1 f7 (g := tile_work.sl.dma0 A d L k1_h1) (toRow (rowOf (A d) (widL L))) (read_aRowK L k1_h1 (A d)))) $$ H7
  ihave H8 := (Entails.of_eq (land_s (F := F) d L cc1_scratch2 f8 (g := tile_work.sl.dma0_1 m d) (m (bLoc d)) rfl)) $$ H8
  have hc1 : k1_chk1 L (tile_work.sl.v5 L) := chk1_ok L
  rw [wp_assume_of _ _ _ _ hc1]
  rw [bind_assoc]
  iapply (SparseCore.wp_vectorLoadIdx 𝒱₀ (V d (cV L) (jV L)) none Set.univ (base := (s8 : Memref sig .scVector .vmem S16 .i32)) (S := Finset.univ) (q := fullShare) (f := m (bLoc d)) (Finset.subset_univ _)) $$ H8
  iintro H8
  have hv6 : ∀ l : Fin 16, loadIdx (((s8 : Memref sig .scVector .vmem S16 .i32).access (.whole S16)).read (Elt F) (m (bLoc d))) ![tile_work.sl.v5 L] (k1_idx1_inb L (tile_work.sl.v5 L) hc1 k1_h1) (lane l)
      = lenOf (m (bLoc d)) (widL L) := fun l =>
    (congrArg (fun B => loadIdx B ![tile_work.sl.v5 L] (k1_idx1_inb L (tile_work.sl.v5 L) hc1 k1_h1) (lane l)) (Memref.read_access_whole (Elt F) cc1_scratch2 (m (bLoc d)))).trans
      (len_lane L k1_h1 (m (bLoc d)) _ l)
  generalize loadIdx (((s8 : Memref sig .scVector .vmem S16 .i32).access (.whole S16)).read (Elt F) (m (bLoc d))) ![tile_work.sl.v5 L] (k1_idx1_inb L (tile_work.sl.v5 L) hc1 k1_h1) = v6 at hv6 ⊢
  sl_exec
  rw [bind_assoc]
  sl_for (inv d L (rowOf (A d) (widL L)) (lenOf (m (bLoc d)) (widL L))) $$ [H6 H7]
  case region =>
    intro t c
    exact trip d L k1_h1 _ _ v6 hv6 t c
  · unfold inv
    isplitr; · ipureintro; rfl
    isplitl [H6]; · iexact H6
    rw [Nat.mul_zero]; iexact H7
  iintro %c HI
  unfold inv
  icases HI with ⟨%hc, H6, H7⟩
  obtain rfl := hc
  rw [show Scf.trips k1_t1_loop.lb k1_t1_loop.ub k1_t1_loop.st = 64 from trips_eq]
  ihave H7 := (Entails.of_eq (pts_s (F := F) d L cc1_scratch1 _).symm) $$ H7
  sl_exec
  sl_step
  isplitl [Ha Hb Hp Ho]
  · isplitl [Ha]; · iapply (Entails.of_eq (pts_aRowK (F := F) d L k1_h1 _)); iexact Ha
    isplitl [Hb]; · iapply (Entails.of_eq (pts_bV (F := F) d L _ _)); iexact Hb
    isplitl [Hp]
    · iapply (Entails.of_eq (land_p (F := F) m A d L k1_h1 (m (pLoc d)) (g := tile_work.sl.dma2 m A d L) rfl)); iexact Hp
    · have e3 : tile_work.sl.dma2_1 m A d L f9 = k1_pay14 (BitVec.ofNat 32 (cnt (rowOf (A d) (widL L)) (lenOf (m (bLoc d)) (widL L)) 2048)) := by
        unfold tile_work.sl.dma2_1 tile_work.sl.H9_1
        exact store_s9 inb_S16_S16_0 f9 _
      iapply (Entails.of_eq (land_o (F := F) m A d L k1_h1 (m (oLoc d)) e3)); iexact Ho
  isplitl [H6 H7 H8 H9 Hbufs]
  · isplitl [H6]; · iexists _; iexact H6
    isplitl [H7]; · iexists _; iapply (Entails.of_eq (pts_s (F := F) d L cc1_scratch1 _)); iexact H7
    isplitl [H8]; · iexists _; iexact H8
    isplitl [H9]; · iexists _; iapply (Entails.of_eq (pts_s (F := F) d L cc1_scratch3 _)); iexact H9
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  rotate_left
  · iexact HO
  · ipureintro; intro p hp
    simp only [Finset.mem_insert] at hp
    rcases hp with rfl | rfl | rfl | rfl | rfl | hp
    iterate 5 exact .inr rfl
    exact .inl hp

end Cert.Proof.Run
-- ==== Proof.TileObl.lean ====
/-
  The SparseCore call's obligation: what every task does, working or idle, as the launch asks for it.
-/
module

public import proofs.«01_k».proof.Proof.Tile

@[expose] public section

set_option maxRecDepth 16384

noncomputable section

namespace Cert.Proof.Run

open Cert.KernelIdeal Cert.KernelIdeal.Gen Cert.Proof.Compact

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (A : Dev nD → S16x2048.Idx → BitVec 32)

/-- The task of an idle subcore: its condition is false, and it returns at once. -/
theorem tile_idle (d : Dev nD) (L : grid1.Coords) (k1_h1 : ¬ k1_cond1 L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (bodyV L)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  unfold bodyV
  simp only [cc1__sc_compact_body_eq_skeleton]; unfold cc1__sc_compact_body_skel
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

/-- Working or idle, a task takes `taskIn` and leaves `taskOut`. -/
theorem tile_task (d : Dev nD) (L : grid1.Coords) (hF : (K (F := F)).Facts) (O : CellTallies nD τ sig (HIx 1)) (W : Waits sig (HIx 1)) (hO : ∀ g, O g none = 0) :
    iprop(levAts (K (F := F)).L (K (F := F)).lev ∗ emp ∗ taskIn m A d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyV L)
          fun _ => iprop(taskOut m A d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  unfold taskIn taskOut
  by_cases h : (L 1).val < 8
  · rw [if_pos h, if_pos h]
    exact tile_work m A d L hF ((cond_iff L).2 h) O W hO
  · rw [if_neg h, if_neg h]
    exact tile_idle d L (fun h' => h ((cond_iff L).1 h')) O W

/-- The grid coordinates of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => bodyV (F := F) (coordsV c s)) ⟨⟩ c s := rfl

/-- What a task left recorded suffices for the launch's post. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's obligation at the call. -/
theorem tileObl (hF : (K (F := F)).Facts) : (K (F := F)).TileObl (D (F := F)) 𝒱 (P m A) v₀ 0 := by
  intro d c i O W hO _ _
  simp only [show (P (F := F) m A).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_task m A d (coordsV ⟨_, hc.1⟩ ⟨_, hc.2⟩) hF O W hO).trans (wp_mono frame _ _ fun _ => obl_post)

end Cert.Proof.Run
-- ==== Proof.Bodies.lean ====
/- The two TensorCore kernel bodies, each run once at symbolic staging buffers: what it leaves in its result buffers as a
   function of what its operand buffers hold. -/
module

public import proofs.«01_k».proof.Proof.TileObl
public import proofs.«01_k».proof.Proof.Gen.KernelIdeal.Launch
public import proofs.«01_k».proof.Proof.Gen.KernelIdeal.Points
public import Idealize.ShloMosaic.Lib.Pipeline.Value
public import Idealize.ShloMosaic.Lib.Pipeline.Regions
public import Idealize.ShloMosaic.Lib.Pipeline.RegionsLoop

@[expose] public section

set_option maxRecDepth 16384

noncomputable section

namespace Cert.Proof.Run

open Cert.KernelIdeal Cert.KernelIdeal.Gen Cert.Proof.Compact
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem z2 : (![0, 0] : Fin 2 → Nat) = fun _ => 0 := funext fun a => by fin_cases a <;> rfl
theorem z3 : (![0, 0, 0] : Fin 3 → Nat) = fun _ => 0 := funext fun a => by fin_cases a <;> rfl

/-- The dense body's values: the row maxima's first positions and the masked sums go to the two result buffers, the two
    operand buffers stay. -/
theorem dense_run (c : Dev nD) (i : grid0.Coords) (a1 : Memref sig .tc .vmem S1x16 .i32) (h1 : a1.IsWhole)
    (a2 : Memref sig .tc .vmem S256x16x1024 .f32) (h2 : a2.IsWhole) (a3 : Memref sig .tc .vmem S16x256 .i32) (h3 : a3.IsWhole)
    (a4 : Memref sig .tc .vmem S1x1x16 .f32) (h4 : a4.IsWhole) (x1 : S1x16.Idx → Elt F .i32) (x2 : S256x16x1024.Idx → Elt F .f32)
    (x3 : S16x256.Idx → Elt F .i32) (x4 : S1x1x16.Idx → Elt F .f32) (Q : PUnit → sProp 𝕄) :
    iprop(owns (c : Thread nD τ) a1 fullShare x1 ∗ owns (c : Thread nD τ) a2 fullShare x2 ∗ owns (c : Thread nD τ) a3 fullShare x3
      ∗ owns (c : Thread nD τ) a4 fullShare x4
      ∗ (iprop(owns (c : Thread nD τ) a1 fullShare x1 ∗ owns (c : Thread nD τ) a2 fullShare x2
          ∗ owns (c : Thread nD τ) a3 fullShare (k0_pay2 x2) ∗ owns (c : Thread nD τ) a4 fullShare (k0_pay3 i x2 x1)) -∗ Q ⟨⟩))
    ⊢ wp frame (wpE (defs₀ (F := F)) 𝒱₀ (c : Thread nD τ) none) Set.univ (cc0__dense_body i a1 h1 a2 h2 a3 h3 a4 h4) Q := by
  rw [cc0__dense_body_eq_skeleton]
  unfold cc0__dense_body_skel owns
  iintro ⟨⟨%f1, %e1, H1⟩, ⟨%f2, %e2, H2⟩, ⟨%f3, %e3, H3⟩, ⟨%f4, %e4, H4⟩, Hk⟩
  sl_exec!
  sl_step
  iapply Hk
  isplitl [H1]; · iexists _; isplitr; swap; (· iexact H1); ipureintro; exact e1
  isplitl [H2]; · iexists _; isplitr; swap; (· iexact H2); ipureintro; exact e2
  isplitl [H3]
  · iexists _; isplitr; swap; (· iexact H3); ipureintro
    rw [View.read_writes_junk_eq_canon]
    refine (View.canon_unit_zero z2 _ _).trans (congrArg k0_pay2 ?_)
    exact (View.ld_unit_zero z3 _ _).trans e2
  iexists _; isplitr; swap; (· iexact H4); ipureintro
  rw [View.read_writes_junk_eq_canon]
  refine (View.canon_unit_zero z3 _ _).trans (congrArg₂ (k0_pay3 i) ?_ ?_)
  · exact (View.ld_unit_zero z3 _ _).trans e2
  · exact (View.ld_unit_zero z2 _ _).trans e1

/-- The finish body's values: the transposed paths, the lengths' first lane and the sum of the parts go to the three result
    buffers, the three operand buffers stay. -/
theorem finish_run (c : Dev nD) (a0 : Memref sig .tc .vmem S16x2048 .i32) (h0 : a0.IsWhole)
    (a1 : Memref sig .tc .vmem S16x16 .i32) (h1 : a1.IsWhole) (a2 : Memref sig .tc .vmem S8x1x16 .f32) (h2 : a2.IsWhole)
    (a3 : Memref sig .tc .vmem S2048x16 .i32) (h3 : a3.IsWhole) (a4 : Memref sig .tc .vmem S1x16 .i32) (h4 : a4.IsWhole)
    (a5 : Memref sig .tc .vmem S1x16 .f32) (h5 : a5.IsWhole) (x0 : S16x2048.Idx → Elt F .i32) (x1 : S16x16.Idx → Elt F .i32)
    (x2 : S8x1x16.Idx → Elt F .f32) (x3 : S2048x16.Idx → Elt F .i32) (x4 : S1x16.Idx → Elt F .i32) (x5 : S1x16.Idx → Elt F .f32)
    (Q : PUnit → sProp 𝕄) :
    iprop(owns (c : Thread nD τ) a0 fullShare x0 ∗ owns (c : Thread nD τ) a1 fullShare x1 ∗ owns (c : Thread nD τ) a2 fullShare x2
      ∗ owns (c : Thread nD τ) a3 fullShare x3 ∗ owns (c : Thread nD τ) a4 fullShare x4 ∗ owns (c : Thread nD τ) a5 fullShare x5
      ∗ (iprop(owns (c : Thread nD τ) a0 fullShare x0 ∗ owns (c : Thread nD τ) a1 fullShare x1 ∗ owns (c : Thread nD τ) a2 fullShare x2
          ∗ owns (c : Thread nD τ) a3 fullShare (k2_pay1 (F := F) x0) ∗ owns (c : Thread nD τ) a4 fullShare (k2_pay2 (F := F) x1)
          ∗ owns (c : Thread nD τ) a5 fullShare (k2_pay3 x2)) -∗ Q ⟨⟩))
    ⊢ wp frame (wpE (defs₀ (F := F)) 𝒱₀ (c : Thread nD τ) none) Set.univ (cc2__finish_body a0 h0 a1 h1 a2 h2 a3 h3 a4 h4 a5 h5) Q := by
  rw [cc2__finish_body_eq_skeleton]
  unfold cc2__finish_body_skel owns
  iintro ⟨⟨%f0, %e0, H0⟩, ⟨%f1, %e1, H1⟩, ⟨%f2, %e2, H2⟩, ⟨%f3, %e3, H3⟩, ⟨%f4, %e4, H4⟩, ⟨%f5, %e5, H5⟩, Hk⟩
  sl_exec!
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]
  · iexists _; isplitr; swap; (· iexact H3); ipureintro
    rw [View.read_writes_junk_eq_canon]
    exact (View.canon_unit_zero z2 _ _).trans (congrArg k2_pay1 ((View.ld_unit_zero z2 _ _).trans e0))
  isplitl [H4]
  · iexists _; isplitr; swap; (· iexact H4); ipureintro
    rw [View.read_writes_junk_eq_canon]
    exact (View.canon_unit_zero z2 _ _).trans (congrArg k2_pay2 ((View.ld_unit_zero z2 _ _).trans e1))
  iexists _; isplitr; swap; (· iexact H5); ipureintro
  rw [View.read_writes_junk_eq_canon]
  exact (View.canon_unit_zero z2 _ _).trans (congrArg k2_pay3 ((View.ld_unit_zero z3 _ _).trans e2))

end Cert.Proof.Run

end
-- ==== Proof.Regions.lean ====
/- The two TensorCore regions: the arrays they leave as functions of the arrays they find, their proof data, their bodies at
   every grid point, and the regions as segments of @main. -/
module

public import proofs.«01_k».proof.Proof.Bodies

@[expose] public section

set_option maxRecDepth 16384

noncomputable section

namespace Cert.Proof.Run

open Cert.KernelIdeal Cert.KernelIdeal.Gen Cert.Proof.Compact
open Idealize.ShloMosaic
open Idealize.ShloMosaic.TcCoe
open Idealize.ShloMosaic.SparseCore (S V T)
open Idealize.ShloMosaic.SparseCore.Cfg (HIx Pay)
open Idealize.ShloMosaic.ValueIdx (ix1 ix2 ix3)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The dense region's blocks and result arrays -/

/-- Block `k` of the logits: the 256 steps from step `256 k` on. -/
def xBlk (X : S2048x16x1024.Idx → F .f32) (k : Fin 8) : S256x16x1024.Idx → F .f32 :=
  fun j => X (ix3 (⟨256 * k.val + (j 0).val, by have := k.isLt; have h : (j 0).val < 256 := (j 0).isLt; omega⟩ : Fin 2048) (⟨(j 1).val, (j 1).isLt⟩ : Fin 16) (⟨(j 2).val, (j 2).isLt⟩ : Fin 1024))

/-- The grid point of block `k`. -/
def ptOf (k : Fin 8) : Fin cfg0.N := ⟨k.val, by rw [show cfg0.N = 8 from N_0]; exact k.isLt⟩

/-- The first positions of the row maxima, all blocks: sequence by step. -/
def amaxOf (X : S2048x16x1024.Idx → F .f32) : S16x2048.Idx → BitVec 32 := fun j =>
  k0_pay2 (xBlk X (⟨(j 1).val / 256, by have h : (j 1).val < 2048 := (j 1).isLt; omega⟩ : Fin 8))
    (ix2 (⟨(j 0).val, (j 0).isLt⟩ : Fin 16) (⟨(j 1).val % 256, Nat.mod_lt _ (by decide)⟩ : Fin 256))

/-- The masked sums of each block: block by sequence. -/
def partsOf (X : S2048x16x1024.Idx → F .f32) (ln : S1x16.Idx → BitVec 32) : S8x1x16.Idx → F .f32 := fun j =>
  k0_pay3 (grid0.coords (ptOf (⟨(j 0).val, (j 0).isLt⟩ : Fin 8))) (xBlk X (⟨(j 0).val, (j 0).isLt⟩ : Fin 8)) ln
    (ix3 (0 : Fin 1) (0 : Fin 1) (⟨(j 2).val, (j 2).isLt⟩ : Fin 16))

/-! ## The regions' proof data -/

variable (Va Vb : Dev nD → Valuation τ sig (Elt F))

/-- A valuation's contents of a TensorCore's buffer. -/
abbrev rd (V : Dev nD → Valuation τ sig (Elt F)) (d : Dev nD) (b : Ref sig .tc) : Buf (Elt F) ((d : Thread nD τ).loc b) := V d b

/-- The block of window `w` of the dense region at point `t`, of the arrays as the region finds them. -/
abbrev blkA (d : Dev nD) (w : Fin 4) (t : Fin cfg0.N) : ((cfg0.win w).xblock (cfg0.grid.coords t)).Idx → Elt F (cfg0.win w).elt :=
  ((cfg0.win w).blk t).view.read (Elt F) (rd Va d (Pipeline.arrRef spec0 w))
/-- The same of the finish region. -/
abbrev blkB (d : Dev nD) (w : Fin 6) (t : Fin cfg2.N) : ((cfg2.win w).xblock (cfg2.grid.coords t)).Idx → Elt F (cfg2.win w).elt :=
  ((cfg2.win w).blk t).view.read (Elt F) (rd Vb d (Pipeline.arrRef spec2 w))

/-- The pairs a TensorCore may have recorded before call `n`. -/
def recd (d : Dev nD) (n : ℕ) : Set (SemLoc sig × HIx 1) := {p | (K (F := F)).lev (T d, p.1) p.2 ≤ 8 * n}

/-- The dense region: operands as fetched, results at the body's values; the starts of the SparseCore call owed throughout. -/
def datA (d : Dev nD) : Dat τ (Elt F) (HIx 1) ℕ UU ℕ cfg0 d where
  A w := rd Va d (Pipeline.arrRef spec0 w)
  after w t := match w with
    | ⟨0, _⟩ => blkA Va d 0 t
    | ⟨1, _⟩ => blkA Va d 1 t
    | ⟨2, _⟩ => k0_pay2 (F := F) (blkA Va d 1 t)
    | ⟨3, _⟩ => k0_pay3 (F := F) (grid0.coords t) (blkA Va d 1 t) (blkA Va d 0 t)
  Φ _ := Pipeline.scopedRest (Ix := HIx 1) (Name := ℕ) (U := UU) (Lvl := ℕ) (Val := Elt F) spec0 d
  q _ := fullShare
  owed _ := (K (F := F)).Otc d 0
  recorded _ := recd (F := F) d 0

/-- The finish region: operands as fetched, results at the body's values; nothing left to start. -/
def datB (d : Dev nD) : Dat τ (Elt F) (HIx 1) ℕ UU ℕ cfg2 d where
  A w := rd Vb d (Pipeline.arrRef spec2 w)
  after w t := match w with
    | ⟨0, _⟩ => blkB Vb d 0 t
    | ⟨1, _⟩ => blkB Vb d 1 t
    | ⟨2, _⟩ => blkB Vb d 2 t
    | ⟨3, _⟩ => k2_pay1 (F := F) (blkB Vb d 0 t)
    | ⟨4, _⟩ => k2_pay2 (F := F) (blkB Vb d 1 t)
    | ⟨5, _⟩ => k2_pay3 (F := F) (blkB Vb d 2 t)
  Φ _ := Pipeline.scopedRest (Ix := HIx 1) (Name := ℕ) (U := UU) (Lvl := ℕ) (Val := Elt F) spec2 d
  q _ := fullShare
  owed _ := (K (F := F)).Otc d 1
  recorded _ := recd (F := F) d 1

/-- Both. -/
def dats : (p : Fin 2) → (d : Dev nD) → Dat τ (Elt F) (HIx 1) ℕ UU ℕ (cfgs p) d
  | ⟨0, _⟩ => datA Va
  | ⟨1, _⟩ => datB Vb

theorem beforeA0 (d : Dev nD) (t : Fin cfg0.N) (x) : (datA Va d).before 0 t x = blkA Va d 0 t :=
  (datA Va d).before_in_eq_fetched 0 rfl (fun _ => rfl) (fun _ _ _ => rfl) (fun _ => rfl) t x
theorem beforeA1 (d : Dev nD) (t : Fin cfg0.N) (x) : (datA Va d).before 1 t x = blkA Va d 1 t :=
  (datA Va d).before_in_eq_fetched 1 rfl (fun _ => rfl) (fun _ _ _ => rfl) (fun _ => rfl) t x
theorem beforeB0 (d : Dev nD) (t : Fin cfg2.N) (x) : (datB Vb d).before 0 t x = blkB Vb d 0 t :=
  (datB Vb d).before_in_eq_fetched 0 rfl (fun _ => rfl) (fun _ _ _ => rfl) (fun _ => rfl) t x
theorem beforeB1 (d : Dev nD) (t : Fin cfg2.N) (x) : (datB Vb d).before 1 t x = blkB Vb d 1 t :=
  (datB Vb d).before_in_eq_fetched 1 rfl (fun _ => rfl) (fun _ _ _ => rfl) (fun _ => rfl) t x
theorem beforeB2 (d : Dev nD) (t : Fin cfg2.N) (x) : (datB Vb d).before 2 t x = blkB Vb d 2 t :=
  (datB Vb d).before_in_eq_fetched 2 rfl (fun _ => rfl) (fun _ _ _ => rfl) (fun _ => rfl) t x

theorem afterA2 (d : Dev nD) (t : Fin cfg0.N) : (datA Va d).after 2 t = k0_pay2 (F := F) (blkA Va d 1 t) := by
  dsimp only [datA]
theorem afterA3 (d : Dev nD) (t : Fin cfg0.N) :
    (datA Va d).after 3 t = k0_pay3 (F := F) (grid0.coords t) (blkA Va d 1 t) (blkA Va d 0 t) := rfl
theorem keptA (d : Dev nD) (t : Fin cfg0.N) : (datA Va d).Φ t.castSucc = (datA Va d).Φ t.succ := rfl
theorem keptB (d : Dev nD) (t : Fin cfg2.N) : (datB Vb d).Φ t.castSucc = (datB Vb d).Φ t.succ := rfl

/-! ## The bodies, at every point -/

/-- The dense body at every point. -/
theorem oblA (d : Dev nD) : BodyObligation (datA Va d) (defs₀ (F := F)) 𝒱₀ none Set.univ := fun t => by
  rw [bigSep_W0, bigSep_W0, keptA, afterA2, afterA3]
  iintro ⟨HΦ, HO, ⟨%x0, H0⟩, ⟨%x1, H1⟩, ⟨%x2, H2⟩, ⟨%x3, H3⟩⟩
  rw [beforeA0, beforeA1]
  iapply (dense_run d (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (blkA Va d 0 t) (blkA Va d 1 t) _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-- The finish body at its one point. -/
theorem oblB (d : Dev nD) : BodyObligation (datB Vb d) (defs₀ (F := F)) 𝒱₀ none Set.univ := fun t => by
  rw [bigSep_W2, bigSep_W2, keptB]
  iintro ⟨HΦ, HO, ⟨%x0, H0⟩, ⟨%x1, H1⟩, ⟨%x2, H2⟩, ⟨%x3, H3⟩, ⟨%x4, H4⟩, ⟨%x5, H5⟩⟩
  rw [beforeB0, beforeB1, beforeB2]
  iapply (finish_run d (st2_0 t) (hstage2_0 0) (st2_1 t) (hstage2_1 0) (st2_2 t) (hstage2_2 0) (st2_3 t) (hstage2_3 0)
    (st2_4 t) (hstage2_4 0) (st2_5 t) (hstage2_5 0) (blkB Vb d 0 t) (blkB Vb d 1 t) (blkB Vb d 2 t) _ _ _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-! ## Where the blocks lie -/

theorem idxA0 : ∀ t : Fin cfg0.N, win0_0.index t (0 : Fin 2) = 0 ∧ win0_0.index t (1 : Fin 2) = 0 :=
  (by decide +kernel : ∀ t : Fin grid0.N, _)
theorem idxA1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idxA2 : ∀ t : Fin cfg0.N, win0_2.index t (0 : Fin 2) = 0 ∧ win0_2.index t (1 : Fin 2) = t.val :=
  (by decide +kernel : ∀ t : Fin grid0.N, _)
theorem idxA3 : ∀ t : Fin cfg0.N, win0_3.index t (0 : Fin 3) = t.val ∧ win0_3.index t (1 : Fin 3) = 0 ∧ win0_3.index t (2 : Fin 3) = 0 :=
  (by decide +kernel : ∀ t : Fin grid0.N, _)

theorem N8 (t : Fin cfg0.N) : t.val < 8 := t.isLt.trans_eq N_0
/-- The block a grid point works on. -/
def kOf (t : Fin cfg0.N) : Fin 8 := ⟨t.val, N8 t⟩

/-- The first window's block is the row of lengths, -/
theorem blkA0_eq (d : Dev nD) (t : Fin cfg0.N) : (blkA Va d 0 t : S1x16.Idx → BitVec 32) = rd Va d main_v0 := by
  obtain ⟨e0, e1⟩ := idxA0 t
  funext j
  show rd Va d main_v0 (((cfg0.win 0).blk t).view.emb j) = rd Va d main_v0 j
  congr 1
  funext a; apply Fin.ext
  match a with
  | ⟨0, _⟩ => show win0_0.index t (0 : Fin 2) * 1 + 1 * (j 0).val = (j 0).val; omega
  | ⟨1, _⟩ => show win0_0.index t (1 : Fin 2) * 16 + 1 * (j 1).val = (j 1).val; omega

/-- and the second's is the point's block of the logits. -/
theorem blkA1_eq (d : Dev nD) (t : Fin cfg0.N) : (blkA Va d 1 t : S256x16x1024.Idx → F .f32) = xBlk (rd Va d main_arg0) (kOf t) := by
  obtain ⟨e0, e1, e2⟩ := idxA1 t
  funext j
  show rd Va d main_arg0 (((cfg0.win 1).blk t).view.emb j) = rd Va d main_arg0 _
  congr 1
  funext a; apply Fin.ext
  match a with
  | ⟨0, _⟩ => show win0_1.index t (0 : Fin 3) * 256 + 1 * (j 0).val = 256 * t.val + (j 0).val; omega
  | ⟨1, _⟩ => show win0_1.index t (1 : Fin 3) * 16 + 1 * (j 1).val = (j 1).val; omega
  | ⟨2, _⟩ => show win0_1.index t (2 : Fin 3) * 1024 + 1 * (j 2).val = (j 2).val; omega

theorem embA2 (t : Fin cfg0.N) (j : S16x256.Idx) : (((cfg0.win 2).blk t).view.emb j : S16x2048.Idx)
    = ix2 (⟨(j 0).val, (j 0).isLt⟩ : Fin 16) (⟨256 * t.val + (j 1).val, by have := N8 t; have h : (j 1).val < 256 := (j 1).isLt; omega⟩ : Fin 2048) := by
  obtain ⟨e0, e1⟩ := idxA2 t
  funext a; apply Fin.ext
  match a with
  | ⟨0, _⟩ => show win0_2.index t (0 : Fin 2) * 16 + 1 * (j 0).val = (j 0).val; omega
  | ⟨1, _⟩ => show win0_2.index t (1 : Fin 2) * 256 + 1 * (j 1).val = 256 * t.val + (j 1).val; omega

theorem embA3 (t : Fin cfg0.N) (j : S1x1x16.Idx) : (((cfg0.win 3).blk t).view.emb j : S8x1x16.Idx)
    = ix3 (kOf t) (0 : Fin 1) (⟨(j 2).val, (j 2).isLt⟩ : Fin 16) := by
  obtain ⟨e0, e1, e2⟩ := idxA3 t
  have h0 : (j 0).val < 1 := (j 0).isLt
  have h1 : (j 1).val < 1 := (j 1).isLt
  funext a; apply Fin.ext
  match a with
  | ⟨0, _⟩ => show win0_3.index t (0 : Fin 3) * 1 + 1 * (j 0).val = t.val; omega
  | ⟨1, _⟩ => show win0_3.index t (1 : Fin 3) * 1 + 1 * (j 1).val = 0; omega
  | ⟨2, _⟩ => show win0_3.index t (2 : Fin 3) * 16 + 1 * (j 2).val = (j 2).val; omega

/-! ## What the dense region leaves -/

/-- Point `t`'s block of the array of first maxima, -/
theorem amaxOf_blk (X : S2048x16x1024.Idx → F .f32) (t : Fin cfg0.N) (j : S16x256.Idx) : k0_pay2 (xBlk X (kOf t)) j
    = amaxOf X (ix2 (⟨(j 0).val, (j 0).isLt⟩ : Fin 16)
        (⟨256 * t.val + (j 1).val, by have := N8 t; have h : (j 1).val < 256 := (j 1).isLt; omega⟩ : Fin 2048)) := by
  have h : (j 1).val < 256 := (j 1).isLt
  have e1 : (256 * t.val + (j 1).val) / 256 = t.val := by omega
  have e2 : (256 * t.val + (j 1).val) % 256 = (j 1).val := by omega
  unfold amaxOf
  refine congr (congrArg (fun k => k0_pay2 (xBlk X k)) (Fin.ext e1.symm)) ?_
  funext a; apply Fin.ext
  match a with
  | ⟨0, _⟩ => rfl
  | ⟨1, _⟩ => exact e2.symm

/-- and of the array of partial sums. -/
theorem partsOf_blk (X : S2048x16x1024.Idx → F .f32) (ln : S1x16.Idx → BitVec 32) (t : Fin cfg0.N) (j : S1x1x16.Idx) :
    k0_pay3 (grid0.coords t) (xBlk X (kOf t)) ln j = partsOf X ln (ix3 (kOf t) (0 : Fin 1) (⟨(j 2).val, (j 2).isLt⟩ : Fin 16)) := by
  unfold partsOf
  refine congr rfl ?_
  have h0 : (j 0).val < 1 := (j 0).isLt
  have h1 : (j 1).val < 1 := (j 1).isLt
  funext a; apply Fin.ext
  match a with
  | ⟨0, _⟩ => show (j 0).val = 0; omega
  | ⟨1, _⟩ => show (j 1).val = 0; omega
  | ⟨2, _⟩ => rfl

/-- A block of `P` lies in an array `G` that holds it where the block lies. -/
theorem cutA2 (t : Fin cfg0.N) (P : S16x256.Idx → Elt F .i32) (G : S16x2048.Idx → Elt F .i32)
    (h : ∀ j : S16x256.Idx, P j = G (ix2 (⟨(j 0).val, (j 0).isLt⟩ : Fin 16)
        (⟨256 * t.val + (j 1).val, by have := N8 t; have h : (j 1).val < 256 := (j 1).isLt; omega⟩ : Fin 2048))) :
    (cfg0.win 2).cut (cfg0.grid.coords t) P = ((cfg0.win 2).blk t).view.read (Elt F) G := by
  funext j
  show P j = G (((cfg0.win 2).blk t).view.emb j)
  rw [embA2]; exact h j
theorem cutA3 (t : Fin cfg0.N) (P : S1x1x16.Idx → Elt F .f32) (G : S8x1x16.Idx → Elt F .f32)
    (h : ∀ j : S1x1x16.Idx, P j = G (ix3 (kOf t) (0 : Fin 1) (⟨(j 2).val, (j 2).isLt⟩ : Fin 16))) :
    (cfg0.win 3).cut (cfg0.grid.coords t) P = ((cfg0.win 3).blk t).view.read (Elt F) G := by
  funext j
  show P j = G (((cfg0.win 3).blk t).view.emb j)
  rw [embA3]; exact h j

/-- The array of first maxima after the region. -/
theorem finalA2 (d : Dev nD) : (datA Va d).arrAt 2 cfg0.N = amaxOf (rd Va d main_arg0) := by
  refine (datA Va d).arrAt_eq_of_cover 2 (amaxOf (rd Va d main_arg0)) (fun t _ => ?_) fun i => ?_
  · unfold Dat.flushed
    rw [afterA2, blkA1_eq]
    exact cutA2 t _ _ (amaxOf_blk _ t)
  · have h1 : (i 1).val < 2048 := (i 1).isLt
    refine ⟨ptOf (⟨(i 1).val / 256, by omega⟩ : Fin 8), flush0_2 _, ?_⟩
    have h := ((cfg0.win 2).blk (ptOf (⟨(i 1).val / 256, by omega⟩ : Fin 8))).view.emb_mem_set
      (ix2 (⟨(i 0).val, (i 0).isLt⟩ : Fin 16) (⟨(i 1).val % 256, Nat.mod_lt _ (by decide)⟩ : Fin 256) : S16x256.Idx)
    rw [embA2] at h
    refine Eq.mp (congrArg (· ∈ _) ?_) h
    funext a; apply Fin.ext
    match a with
    | ⟨0, _⟩ => rfl
    | ⟨1, _⟩ => show 256 * ((i 1).val / 256) + (i 1).val % 256 = (i 1).val; omega

/-- The array of partial sums after the region. -/
theorem finalA3 (d : Dev nD) : (datA Va d).arrAt 3 cfg0.N = partsOf (rd Va d main_arg0) (rd Va d main_v0) := by
  refine (datA Va d).arrAt_eq_of_cover 3 (partsOf (rd Va d main_arg0) (rd Va d main_v0)) (fun t _ => ?_) fun i => ?_
  · unfold Dat.flushed
    rw [afterA3, blkA1_eq, blkA0_eq]
    exact cutA3 t _ _ (partsOf_blk _ _ t)
  · have h0 : (i 0).val < 8 := (i 0).isLt
    have h1 : (i 1).val < 1 := (i 1).isLt
    refine ⟨ptOf (⟨(i 0).val, h0⟩ : Fin 8), flush0_3 _, ?_⟩
    have h := ((cfg0.win 3).blk (ptOf (⟨(i 0).val, h0⟩ : Fin 8))).view.emb_mem_set
      (ix3 (0 : Fin 1) (0 : Fin 1) (⟨(i 2).val, (i 2).isLt⟩ : Fin 16) : S1x1x16.Idx)
    rw [embA3] at h
    refine Eq.mp (congrArg (· ∈ _) ?_) h
    funext a; apply Fin.ext
    match a with
    | ⟨0, _⟩ => rfl
    | ⟨1, _⟩ => show 0 = (i 1).val; omega
    | ⟨2, _⟩ => rfl

/-! ## What the finish region leaves -/

theorem idxB : ∀ (t : Fin cfg2.N) (a : Fin 2), win2_0.index t a = 0 ∧ win2_1.index t a = 0 ∧ win2_3.index t a = 0
    ∧ win2_4.index t a = 0 ∧ win2_5.index t a = 0 := (by decide +kernel : ∀ t : Fin grid2.N, _)
theorem idxB2 : ∀ (t : Fin cfg2.N) (a : Fin 3), win2_2.index t a = 0 := (by decide +kernel : ∀ t : Fin grid2.N, _)

theorem embB0 (t : Fin cfg2.N) (j : S16x2048.Idx) : (((cfg2.win 0).blk t).view.emb j : S16x2048.Idx) = j := by
  funext a; apply Fin.ext
  have e := (idxB t a).1
  match a with
  | ⟨0, _⟩ => show win2_0.index t (0 : Fin 2) * 16 + 1 * (j 0).val = (j 0).val; simp at e; omega
  | ⟨1, _⟩ => show win2_0.index t (1 : Fin 2) * 2048 + 1 * (j 1).val = (j 1).val; simp at e; omega
theorem embB1 (t : Fin cfg2.N) (j : S16x16.Idx) : (((cfg2.win 1).blk t).view.emb j : S16x16.Idx) = j := by
  funext a; apply Fin.ext
  have e := (idxB t a).2.1
  match a with
  | ⟨0, _⟩ => show win2_1.index t (0 : Fin 2) * 16 + 1 * (j 0).val = (j 0).val; simp at e; omega
  | ⟨1, _⟩ => show win2_1.index t (1 : Fin 2) * 16 + 1 * (j 1).val = (j 1).val; simp at e; omega
theorem embB2 (t : Fin cfg2.N) (j : S8x1x16.Idx) : (((cfg2.win 2).blk t).view.emb j : S8x1x16.Idx) = j := by
  funext a; apply Fin.ext
  have e0 := idxB2 t 0
  have e1 := idxB2 t 1
  have e2 := idxB2 t 2
  match a with
  | ⟨0, _⟩ => show win2_2.index t (0 : Fin 3) * 8 + 1 * (j 0).val = (j 0).val; omega
  | ⟨1, _⟩ => show win2_2.index t (1 : Fin 3) * 1 + 1 * (j 1).val = (j 1).val; omega
  | ⟨2, _⟩ => show win2_2.index t (2 : Fin 3) * 16 + 1 * (j 2).val = (j 2).val; omega
theorem embB3 (t : Fin cfg2.N) (j : S2048x16.Idx) : (((cfg2.win 3).blk t).view.emb j : S2048x16.Idx) = j := by
  funext a; apply Fin.ext
  have e := (idxB t a).2.2.1
  match a with
  | ⟨0, _⟩ => show win2_3.index t (0 : Fin 2) * 2048 + 1 * (j 0).val = (j 0).val; simp at e; omega
  | ⟨1, _⟩ => show win2_3.index t (1 : Fin 2) * 16 + 1 * (j 1).val = (j 1).val; simp at e; omega
theorem embB4 (t : Fin cfg2.N) (j : S1x16.Idx) : (((cfg2.win 4).blk t).view.emb j : S1x16.Idx) = j := by
  funext a; apply Fin.ext
  have e := (idxB t a).2.2.2.1
  match a with
  | ⟨0, _⟩ => show win2_4.index t (0 : Fin 2) * 1 + 1 * (j 0).val = (j 0).val; simp at e; omega
  | ⟨1, _⟩ => show win2_4.index t (1 : Fin 2) * 16 + 1 * (j 1).val = (j 1).val; simp at e; omega
theorem embB5 (t : Fin cfg2.N) (j : S1x16.Idx) : (((cfg2.win 5).blk t).view.emb j : S1x16.Idx) = j := by
  funext a; apply Fin.ext
  have e := (idxB t a).2.2.2.2
  match a with
  | ⟨0, _⟩ => show win2_5.index t (0 : Fin 2) * 1 + 1 * (j 0).val = (j 0).val; simp at e; omega
  | ⟨1, _⟩ => show win2_5.index t (1 : Fin 2) * 16 + 1 * (j 1).val = (j 1).val; simp at e; omega

/-- The finish region's blocks are its whole arrays. -/
theorem blkB0_eq (d : Dev nD) (t : Fin cfg2.N) : (blkB Vb d 0 t : S16x2048.Idx → BitVec 32) = rd Vb d main_v2_0 :=
  funext fun j => congrArg (rd Vb d main_v2_0) (embB0 t j)
theorem blkB1_eq (d : Dev nD) (t : Fin cfg2.N) : (blkB Vb d 1 t : S16x16.Idx → BitVec 32) = rd Vb d main_v2_1 :=
  funext fun j => congrArg (rd Vb d main_v2_1) (embB1 t j)
theorem blkB2_eq (d : Dev nD) (t : Fin cfg2.N) : (blkB Vb d 2 t : S8x1x16.Idx → F .f32) = rd Vb d main_v1_1 :=
  funext fun j => congrArg (rd Vb d main_v1_1) (embB2 t j)

theorem afterB3 (d : Dev nD) (t : Fin cfg2.N) : (datB Vb d).after 3 t = k2_pay1 (F := F) (blkB Vb d 0 t) := by dsimp only [datB]
theorem afterB4 (d : Dev nD) (t : Fin cfg2.N) : (datB Vb d).after 4 t = k2_pay2 (F := F) (blkB Vb d 1 t) := by dsimp only [datB]
theorem afterB5 (d : Dev nD) (t : Fin cfg2.N) : (datB Vb d).after 5 t = k2_pay3 (F := F) (blkB Vb d 2 t) := by dsimp only [datB]

theorem cutB3 (t : Fin cfg2.N) (P : S2048x16.Idx → Elt F .i32) :
    (cfg2.win 3).cut (cfg2.grid.coords t) P = ((cfg2.win 3).blk t).view.read (Elt F) P := by
  funext j; show P j = P (((cfg2.win 3).blk t).view.emb j); rw [embB3]
theorem cutB4 (t : Fin cfg2.N) (P : S1x16.Idx → Elt F .i32) :
    (cfg2.win 4).cut (cfg2.grid.coords t) P = ((cfg2.win 4).blk t).view.read (Elt F) P := by
  funext j; show P j = P (((cfg2.win 4).blk t).view.emb j); rw [embB4]
theorem cutB5 (t : Fin cfg2.N) (P : S1x16.Idx → Elt F .f32) :
    (cfg2.win 5).cut (cfg2.grid.coords t) P = ((cfg2.win 5).blk t).view.read (Elt F) P := by
  funext j; show P j = P (((cfg2.win 5).blk t).view.emb j); rw [embB5]

/-- The paths, transposed, -/
theorem finalB3 (d : Dev nD) : (datB Vb d).arrAt 3 cfg2.N = k2_pay1 (F := F) (rd Vb d main_v2_0) := by
  refine (datB Vb d).arrAt_eq_of_cover 3 _ (fun t _ => ?_) fun i => ⟨t2_0, flush2_3 _, ?_⟩
  · unfold Dat.flushed
    rw [afterB3, blkB0_eq]
    exact cutB3 t _
  · have h := ((cfg2.win 3).blk t2_0).view.emb_mem_set i
    rwa [embB3] at h
/-- the lengths, -/
theorem finalB4 (d : Dev nD) : (datB Vb d).arrAt 4 cfg2.N = k2_pay2 (F := F) (rd Vb d main_v2_1) := by
  refine (datB Vb d).arrAt_eq_of_cover 4 _ (fun t _ => ?_) fun i => ⟨t2_0, flush2_4 _, ?_⟩
  · unfold Dat.flushed
    rw [afterB4, blkB1_eq]
    exact cutB4 t _
  · have h := ((cfg2.win 4).blk t2_0).view.emb_mem_set i
    rwa [embB4] at h
/-- and the sums after the finish region. -/
theorem finalB5 (d : Dev nD) : (datB Vb d).arrAt 5 cfg2.N = k2_pay3 (F := F) (rd Vb d main_v1_1) := by
  refine (datB Vb d).arrAt_eq_of_cover 5 _ (fun t _ => ?_) fun i => ⟨t2_0, flush2_5 _, ?_⟩
  · unfold Dat.flushed
    rw [afterB5, blkB2_eq]
    exact cutB5 t _
  · have h := ((cfg2.win 5).blk t2_0).view.emb_mem_set i
    rwa [embB5] at h

end Cert.Proof.Run

end
-- ==== Proof.Segs.lean ====
/- The two TensorCore regions as segments of @main: each takes the unscoped buffers from one valuation to the next. -/
module

public import proofs.«01_k».proof.Proof.Regions

@[expose] public section

set_option maxRecDepth 16384

noncomputable section

namespace Cert.Proof.Run

open Cert.KernelIdeal Cert.KernelIdeal.Gen Cert.Proof.Compact
open Idealize.ShloMosaic
open Idealize.ShloMosaic.TcCoe
open Idealize.ShloMosaic.SparseCore (S V T)
open Idealize.ShloMosaic.SparseCore.Cfg (HIx Pay)
open Idealize.ShloMosaic.ValueIdx (ix1 ix2 ix3)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (Va Vb : Dev nD → Valuation τ sig (Elt F))

/-- The TensorCore's buffer as a device's buffer. -/
abbrev dr (b : Ref sig .tc) : DevRef τ sig := Proc.devRef .tc b

/-- The buffers after the dense region, -/
def denseOut (V : Valuation τ sig (Elt F)) : Valuation τ sig (Elt F) :=
  Function.update (Function.update V (dr main_v1_0) (amaxOf (V (dr main_arg0)) : S16x2048.Idx → Elt F .i32))
    (dr main_v1_1) (partsOf (V (dr main_arg0)) (V (dr main_v0)) : S8x1x16.Idx → Elt F .f32)
/-- and after the finish region. -/
def finishOut (V : Valuation τ sig (Elt F)) : Valuation τ sig (Elt F) :=
  Function.update (Function.update (Function.update V (dr main_v3_0) (k2_pay1 (F := F) (V (dr main_v2_0)) : S2048x16.Idx → Elt F .i32))
    (dr main_v3_1) (k2_pay2 (F := F) (V (dr main_v2_1)) : S1x16.Idx → Elt F .i32))
    (dr main_v3_2) (k2_pay3 (F := F) (V (dr main_v1_1)) : S1x16.Idx → Elt F .f32)

/-- What a TensorCore owes before call `n`, its recorded pairs bounded as the launch bounds them. -/
abbrev debt (d : Dev nD) (n : ℕ) : sProp 𝕄 :=
  iprop(∃ W, ⌜(K (F := F)).WBelow (T d) W (8 * n)⌝ ∗ owes (T d) ((K (F := F)).Otc d n) W)

/-- The TensorCore owes no wait of its own. -/
theorem Otc_none (d : Dev nD) (n : ℕ) (g : GSem nD τ sig) : (K (F := F)).Otc d n g none = 0 := by
  by_contra h
  have h' := SparseCore.Cfg.lev_of_Otc_pos (K := K (F := F)) (Nat.pos_of_ne_zero h)
  rw [SparseCore.Cfg.lev_none] at h'; omega

abbrev adm : (p : Fin 2) → (pcfgs (F := F) p).Adm := fun p => (cfgs p).toPCfg_adm

/-- A bounded record stays bounded when the pairs a region's own waits record are added. -/
theorem below_bound {cfg : Pipeline.Cfg sig Λ₀} (d : Dev nD) (n : ℕ) {W : Waits sig (HIx 1)}
    (h : ∀ p ∈ W, p ∈ recd (F := F) d n ∪ cfg.waitPairs none) : (K (F := F)).WBelow (T d) W (8 * n) := fun p hp => by
  rcases h p hp with h | ⟨w, s, rfl⟩
  · exact h
  · exact Nat.zero_le _

/-- The TensorCore's regions use no semaphore of their own. -/
def noSem : Fin 0 → SemLoc sig := fun k => k.elim0
theorem noSemA : Pipeline.OwnSemFacts spec0 noSem := by decide
theorem noSemB : Pipeline.OwnSemFacts spec2 noSem := by decide

/-- Device buffers of different references differ. -/
theorem dr_ne {a b : Ref sig .tc} (h : a ≠ b) : dr a ≠ dr b := StableHlo.devRef_ne_of_ne h

/-- Reading `denseOut` at the buffers it names and at the others. -/
theorem denseOut_3 (V : Valuation τ sig (Elt F)) :
    denseOut V (dr main_v1_1) = partsOf (V (dr main_arg0)) (V (dr main_v0)) := by unfold denseOut; exact Function.update_self _ _ _
theorem denseOut_2 (V : Valuation τ sig (Elt F)) : denseOut V (dr main_v1_0) = amaxOf (V (dr main_arg0)) := by
  unfold denseOut; exact (Function.update_of_ne (dr_ne (by decide)) _ _).trans (Function.update_self _ _ _)
theorem denseOut_ne (V : Valuation τ sig (Elt F)) {b : Ref sig .tc} (h2 : b ≠ main_v1_0) (h3 : b ≠ main_v1_1) :
    denseOut V (dr b) = V (dr b) := by
  unfold denseOut; exact (Function.update_of_ne (dr_ne h3) _ _).trans (Function.update_of_ne (dr_ne h2) _ _)

/-- Reading `finishOut` at the buffers it names and at the others. -/
theorem finishOut_5 (V : Valuation τ sig (Elt F)) :
    finishOut V (dr main_v3_2) = k2_pay3 (V (dr main_v1_1)) := by unfold finishOut; exact Function.update_self _ _ _
theorem finishOut_4 (V : Valuation τ sig (Elt F)) : finishOut V (dr main_v3_1) = k2_pay2 (F := F) (V (dr main_v2_1)) := by
  unfold finishOut; exact (Function.update_of_ne (dr_ne (by decide)) _ _).trans (Function.update_self _ _ _)
theorem finishOut_3 (V : Valuation τ sig (Elt F)) : finishOut V (dr main_v3_0) = k2_pay1 (F := F) (V (dr main_v2_0)) := by
  unfold finishOut
  exact (Function.update_of_ne (dr_ne (by decide)) _ _).trans ((Function.update_of_ne (dr_ne (by decide)) _ _).trans (Function.update_self _ _ _))
theorem finishOut_ne (V : Valuation τ sig (Elt F)) {b : Ref sig .tc} (h3 : b ≠ main_v3_0) (h4 : b ≠ main_v3_1) (h5 : b ≠ main_v3_2) :
    finishOut V (dr b) = V (dr b) := by
  unfold finishOut
  exact (Function.update_of_ne (dr_ne h5) _ _).trans ((Function.update_of_ne (dr_ne h4) _ _).trans (Function.update_of_ne (dr_ne h3) _ _))

/-- The dense region's arrays at the end are the buffers after it, -/
theorem denseOut_arr (d : Dev nD) : ∀ w : Fin 4, (datA Va d).arrAt w cfg0.N = rd (fun c => denseOut (Va c)) d (Pipeline.arrRef spec0 w) := fun
  | 0 => ((datA Va d).arrAt_in 0 rfl _).trans (denseOut_ne (Va d) (b := main_v0) (by decide) (by decide)).symm
  | 1 => ((datA Va d).arrAt_in 1 rfl _).trans (denseOut_ne (Va d) (b := main_arg0) (by decide) (by decide)).symm
  | 2 => (finalA2 Va d).trans (denseOut_2 (Va d)).symm
  | 3 => (finalA3 Va d).trans (denseOut_3 (Va d)).symm
/-- and the other buffers are as before. -/
theorem denseOut_rest (d : Dev nD) (b : Ref sig .tc) (hb : b ∉ Finset.univ.image (Pipeline.arrRef spec0)) :
    rd (fun c => denseOut (Va c)) d b = rd Va d b :=
  denseOut_ne (Va d) (fun h => hb (Finset.mem_image.mpr ⟨2, Finset.mem_univ _, h.symm⟩)) (fun h => hb (Finset.mem_image.mpr ⟨3, Finset.mem_univ _, h.symm⟩))

/-- The same of the finish region. -/
theorem finishOut_arr (d : Dev nD) : ∀ w : Fin 6, (datB Vb d).arrAt w cfg2.N = rd (fun c => finishOut (Vb c)) d (Pipeline.arrRef spec2 w) := fun
  | 0 => ((datB Vb d).arrAt_in 0 rfl _).trans (finishOut_ne (Vb d) (b := main_v2_0) (by decide) (by decide) (by decide)).symm
  | 1 => ((datB Vb d).arrAt_in 1 rfl _).trans (finishOut_ne (Vb d) (b := main_v2_1) (by decide) (by decide) (by decide)).symm
  | 2 => ((datB Vb d).arrAt_in 2 rfl _).trans (finishOut_ne (Vb d) (b := main_v1_1) (by decide) (by decide) (by decide)).symm
  | 3 => (finalB3 Vb d).trans (finishOut_3 (Vb d)).symm
  | 4 => (finalB4 Vb d).trans (finishOut_4 (Vb d)).symm
  | 5 => (finalB5 Vb d).trans (finishOut_5 (Vb d)).symm
theorem finishOut_rest (d : Dev nD) (b : Ref sig .tc) (hb : b ∉ Finset.univ.image (Pipeline.arrRef spec2)) :
    rd (fun c => finishOut (Vb c)) d b = rd Vb d b :=
  finishOut_ne (Vb d) (fun h => hb (Finset.mem_image.mpr ⟨3, Finset.mem_univ _, h.symm⟩)) (fun h => hb (Finset.mem_image.mpr ⟨4, Finset.mem_univ _, h.symm⟩))
    (fun h => hb (Finset.mem_image.mpr ⟨5, Finset.mem_univ _, h.symm⟩))

set_option backward.isDefEq.respectTransparency.types false in
/-- The dense region as a segment: from the unscoped buffers at its entry to the same with the region's results. -/
def segA : Pipeline.RegionSeg (pcfgs (F := F)) adm (dats Va Vb) none defs₀ 𝒱₀ (K (F := F)).L (K (F := F)).lev 0 where
  win := launch0.win.to₀
  block_pos := launch0.block_pos
  stage_whole := launch0.stage_whole
  K := Fin 0
  osem := noSem
  ho := noSemA
  hbody c := (oblA Va c).loose
  hwaits c := Pipeline.cellsWaits_intro (Pipeline.pin (pcfgs (F := F)) adm) (dats Va Vb) none 0 c fun w s t => (K (F := F)).mayWait_none _ (Otc_none c 0)
  pre c := iprop(unscopedBufs c (rd Va c) ∗ debt (F := F) c 0)
  post c := iprop(unscopedBufs c (rd (fun c => denseOut (Va c)) c) ∗ debt (F := F) c 0)
  X c := BI.emp
  Y c := BI.emp
  Z c := Pipeline.unscopedRest spec0 c (rd Va c)
  hentry c := by
    have hsplit := Pipeline.arrays_of_unscopedBufs (p := 0) (pcfgs (F := F)) adm (dats Va Vb) launch0.win launch0.arr_whole c
      ((dats Va Vb 0 c).share_full fun _ => rfl) (rd Va c) (fun _ => rfl)
    iintro ⟨⟨Hub, HO⟩, Hos, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact HZ
  hin c := by
    rw [show (dats Va Vb 0 c).Φ 0 = Pipeline.scopedRest (Ix := HIx 1) (Name := ℕ) (U := UU) (Lvl := ℕ) (Val := Elt F) spec0 c from rfl]
    iintro ⟨-, -, H⟩
    iexact H
  hout c := by
    rw [show (dats Va Vb 0 c).Φ (Fin.last (Pipeline.pin pcfgs adm 0).N) = Pipeline.scopedRest (Ix := HIx 1) (Name := ℕ) (U := UU) (Lvl := ℕ) (Val := Elt F) spec0 c from rfl]
    iintro H
    isplitr; · iempintro
    isplitr
    · unfold Pipeline.ownSems0; rw [show (Finset.univ : Finset (Fin 0)) = ∅ from rfl, BI.bigSep_empty]; iempintro
    iexact H
  hexit c := by
    have hjoin := Pipeline.unscopedBufs_of_arrays (p := 0) (pcfgs (F := F)) adm launch0.win launch0.arr_whole c (dats Va Vb)
      ((dats Va Vb 0 c).share_full fun _ => rfl) (rd Va c) (rd (fun c => denseOut (Va c)) c) (fun w => (datA Va c).arrAt w cfg0.N)
      (denseOut_arr Va c) (denseOut_rest Va c)
    iintro ⟨Ha, HO, -, HZ⟩
    imodintro
    isplitl [Ha HZ]
    · iapply hjoin
      isplitl [Ha]; · iexact Ha
      iexact HZ
    · unfold Pipeline.Dat.owesAt Pipeline.owesWithin
      icases HO with ⟨%W, %hW, HO⟩; iexists W
      isplitr; · ipureintro; exact below_bound (cfg := cfg0) c 0 hW
      iexact HO

set_option backward.isDefEq.respectTransparency.types false in
/-- The finish region as a segment: from the unscoped buffers at its entry to the same with the region's results. -/
def segB : Pipeline.RegionSeg (pcfgs (F := F)) adm (dats Va Vb) none defs₀ 𝒱₀ (K (F := F)).L (K (F := F)).lev 1 where
  win := launch2.win.to₀
  block_pos := launch2.block_pos
  stage_whole := launch2.stage_whole
  K := Fin 0
  osem := noSem
  ho := noSemB
  hbody c := (oblB Vb c).loose
  hwaits c := Pipeline.cellsWaits_intro (Pipeline.pin (pcfgs (F := F)) adm) (dats Va Vb) none 1 c fun w s t => (K (F := F)).mayWait_none _ (Otc_none c 1)
  pre c := iprop(unscopedBufs c (rd Vb c) ∗ debt (F := F) c 1)
  post c := iprop(unscopedBufs c (rd (fun c => finishOut (Vb c)) c) ∗ debt (F := F) c 1)
  X c := BI.emp
  Y c := BI.emp
  Z c := Pipeline.unscopedRest spec2 c (rd Vb c)
  hentry c := by
    have hsplit := Pipeline.arrays_of_unscopedBufs (p := 1) (pcfgs (F := F)) adm (dats Va Vb) launch2.win launch2.arr_whole c
      ((dats Va Vb 1 c).share_full fun _ => rfl) (rd Vb c) (fun _ => rfl)
    iintro ⟨⟨Hub, HO⟩, Hos, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact HZ
  hin c := by
    rw [show (dats Va Vb 1 c).Φ 0 = Pipeline.scopedRest (Ix := HIx 1) (Name := ℕ) (U := UU) (Lvl := ℕ) (Val := Elt F) spec2 c from rfl]
    iintro ⟨-, -, H⟩
    iexact H
  hout c := by
    rw [show (dats Va Vb 1 c).Φ (Fin.last (Pipeline.pin pcfgs adm 1).N) = Pipeline.scopedRest (Ix := HIx 1) (Name := ℕ) (U := UU) (Lvl := ℕ) (Val := Elt F) spec2 c from rfl]
    iintro H
    isplitr; · iempintro
    isplitr
    · unfold Pipeline.ownSems0; rw [show (Finset.univ : Finset (Fin 0)) = ∅ from rfl, BI.bigSep_empty]; iempintro
    iexact H
  hexit c := by
    have hjoin := Pipeline.unscopedBufs_of_arrays (p := 1) (pcfgs (F := F)) adm launch2.win launch2.arr_whole c (dats Va Vb)
      ((dats Va Vb 1 c).share_full fun _ => rfl) (rd Vb c) (rd (fun c => finishOut (Vb c)) c) (fun w => (datB Vb c).arrAt w cfg2.N)
      (finishOut_arr Vb c) (finishOut_rest Vb c)
    iintro ⟨Ha, HO, -, HZ⟩
    imodintro
    isplitl [Ha HZ]
    · iapply hjoin
      isplitl [Ha]; · iexact Ha
      iexact HZ
    · unfold Pipeline.Dat.owesAt Pipeline.owesWithin
      icases HO with ⟨%W, %hW, HO⟩; iexists W
      isplitr; · ipureintro; exact below_bound (cfg := cfg2) c 1 hW
      iexact HO

end Cert.Proof.Run

end
-- ==== Proof.Call.lean ====
/- The SparseCore call's operands: the whole arrays are dealt to the sixteen tasks by rows, and joined again after it. -/
module

public import proofs.«01_k».proof.Proof.Segs

@[expose] public section

set_option maxRecDepth 16384

noncomputable section

namespace Cert.Proof.Run

open Cert.KernelIdeal Cert.KernelIdeal.Gen Cert.Proof.Compact
open Idealize.ShloMosaic
open Idealize.ShloMosaic.TcCoe
open Idealize.ShloMosaic.SparseCore (S V T)
open Idealize.ShloMosaic.SparseCore.Cfg (HIx Pay)
open Idealize.ShloMosaic.ValueIdx (ix1 ix2 ix3)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The rows of SparseCore `c`'s tasks, as an embedding. -/
def widEmb (c : ℕ) : Fin 16 ↪ ℕ where
  toFun i := i.val * 2 + c
  inj' i j h := Fin.ext (by have h : i.val * 2 + c = j.val * 2 + c := h; omega)

/-- The tasks of both SparseCores that are given something are the sixteen rows, each once. -/
theorem deal_rows (R : ℕ → sProp 𝕄) :
    (bigSep Finset.univ fun c : Fin 2 => bigSep Finset.univ fun i : Fin 16 => if i.val < 8 then R (wid c.val i.val) else (iprop(emp) : sProp 𝕄))
      = bigSep (Finset.range 16) R := by
  have one (c : ℕ) (hc : c < 2) : (bigSep Finset.univ fun i : Fin 16 => if i.val < 8 then R (wid c i.val) else (iprop(emp) : sProp 𝕄))
      = bigSep ((Finset.range 16).filter fun w => w % 2 = c) R := by
    refine (BI.bigSep_filter Finset.univ (fun i : Fin 16 => i.val < 8) (fun i => R (wid c i.val))).symm.trans ?_
    refine ((BI.bigSep_map (widEmb c) (s := Finset.univ.filter fun i : Fin 16 => i.val < 8) (Φ := R)).symm.trans (congrArg (fun S => bigSep S R) ?_))
    ext w
    rw [Finset.mem_map, Finset.mem_filter, Finset.mem_range]
    constructor
    · rintro ⟨i, hi, rfl⟩
      have hi := (Finset.mem_filter.mp hi).2
      show i.val * 2 + c < 16 ∧ (i.val * 2 + c) % 2 = c
      omega
    · rintro ⟨h, h'⟩
      exact ⟨⟨w / 2, by omega⟩, Finset.mem_filter.mpr ⟨Finset.mem_univ _, show w / 2 < 8 by omega⟩, show w / 2 * 2 + c = w by omega⟩
  rw [BI.bigSep_fin_two]
  refine (congrArg₂ (fun a b : sProp 𝕄 => iprop(a ∗ b)) (one 0 (by omega)) (one 1 (by omega))).trans ?_
  refine (BI.bigSep_union (Finset.disjoint_filter.mpr fun w _ h => by omega)).symm.trans (congrArg (fun S => bigSep S R) ?_)
  ext w; simp only [Finset.mem_union, Finset.mem_filter, Finset.mem_range]; omega

variable (m : (ℓ : Loc nD τ sig) → Buf (Elt F) ℓ) (ρ : Dev nD → PrngReg) (A : Dev nD → S16x2048.Idx → BitVec 32)

theorem st_eq (d : Dev nD) : (bigSep Finset.univ fun c : Fin ((K (F := F)).nCore 0) => (P m A).st 0 d c) = bigSep (Finset.range 16) (rowIn m A d) :=
  deal_rows (rowIn m A d)
theorem dn_eq (d : Dev nD) : (bigSep Finset.univ fun c : Fin ((K (F := F)).nCore 0) => (P m A).dn 0 d c) = bigSep (Finset.range 16) (rowOut m A d) :=
  deal_rows (rowOut m A d)

/-- The rows of a 16 by 2048 array are apart and are all of it; -/
theorem rowSet_disjoint : ∀ t ∈ Finset.range 16, ∀ t' ∈ Finset.range 16, t ≠ t' → Disjoint (rowSet t) (rowSet t') :=
  fun _ _ _ _ h => Finset.disjoint_filter.mpr fun _ _ e e' => h (e.symm.trans e')
theorem rowSet_cover : (Finset.range 16).biUnion rowSet = Finset.univ := by
  ext j; simp only [Finset.mem_biUnion, Finset.mem_range, rowSet, Finset.mem_filter, Finset.mem_univ, true_and, iff_true]
  exact ⟨_, (j 0).isLt, rfl⟩
/-- those of a 16 by 16 array too. -/
theorem rowSetO_disjoint : ∀ t ∈ Finset.range 16, ∀ t' ∈ Finset.range 16, t ≠ t' → Disjoint (rowSetO t) (rowSetO t') :=
  fun _ _ _ _ h => Finset.disjoint_filter.mpr fun _ _ e e' => h (e.symm.trans e')
theorem rowSetO_cover : (Finset.range 16).biUnion rowSetO = Finset.univ := by
  ext j; simp only [Finset.mem_biUnion, Finset.mem_range, rowSetO, Finset.mem_filter, Finset.mem_univ, true_and, iff_true]
  exact ⟨_, (j 0).isLt, rfl⟩

/-- A whole 16 by 2048 array is its rows; -/
theorem whole_a (d : Dev nD) (f : Buf (Elt F) (aLoc d)) :
    (aLoc d ↦{fullShare} f : sProp 𝕄) = bigSep (Finset.range 16) fun w => aLoc d ↦[rowSet w]{fullShare} f := by
  rw [← pointsTo_biUnion (ℓ := aLoc d) (Finset.range 16) rowSet rowSet_disjoint, rowSet_cover]
theorem whole_p (d : Dev nD) (f : Buf (Elt F) (pLoc d)) :
    (pLoc d ↦{fullShare} f : sProp 𝕄) = bigSep (Finset.range 16) fun w => pLoc d ↦[rowSet w]{fullShare} f := by
  rw [← pointsTo_biUnion (ℓ := pLoc d) (Finset.range 16) rowSet rowSet_disjoint, rowSet_cover]
/-- a whole 16 by 16 array is its rows. -/
theorem whole_o (d : Dev nD) (f : Buf (Elt F) (oLoc d)) :
    (oLoc d ↦{fullShare} f : sProp 𝕄) = bigSep (Finset.range 16) fun w => oLoc d ↦[rowSetO w]{fullShare} f := by
  rw [← pointsTo_biUnion (ℓ := oLoc d) (Finset.range 16) rowSetO rowSetO_disjoint, rowSetO_cover]

/-- The four arrays of the call, with the results at `f` and `g`, are the sixteen tasks' parts of them and what is left of the lengths' share. -/
theorem rows_of_whole (d : Dev nD) (f : S16x2048.Idx → BitVec 32) (g : S16x16.Idx → BitVec 32) :
    (iprop((aLoc d ↦{fullShare} A d) ∗ (bLoc d ↦{fullShare} m (bLoc d)) ∗ (pLoc d ↦{fullShare} f) ∗ (oLoc d ↦{fullShare} g)) : sProp 𝕄)
      ⊣⊢ iprop((bLoc d ↦{Transfers.shareDrop fullShare 16} m (bLoc d)) ∗ bigSep (Finset.range 16) fun w =>
          iprop((aLoc d ↦[rowSet w]{fullShare} A d) ∗ (bLoc d ↦{Transfers.shareTokN fullShare w} m (bLoc d))
            ∗ (pLoc d ↦[rowSet w]{fullShare} f) ∗ (oLoc d ↦[rowSetO w]{fullShare} g))) := by
  have hb := Transfers.pointsTo_toks_range (nD := nD) (τ := τ) (sig := sig) (Ix := HIx 1) (Val := Elt F) (Name := ℕ) (U := UU) (Lvl := ℕ)
    (ℓ := bLoc d) (S := Finset.univ) (f := m (bLoc d)) fullShare 16
  rw [BI.bigSep_sep', BI.bigSep_sep', BI.bigSep_sep', ← whole_a, ← whole_p, ← whole_o]
  constructor
  · iintro ⟨Ha, Hb, Hp, Ho⟩
    ihave H := hb.1 $$ Hb
    icases H with ⟨Hd, Ht⟩
    isplitl [Hd]; · iexact Hd
    isplitl [Ha]; · iexact Ha
    isplitl [Ht]; · iexact Ht
    isplitl [Hp] <;> iassumption
  · iintro ⟨Hd, Ha, Ht, Hp, Ho⟩
    isplitl [Ha]; · iexact Ha
    isplitl [Hd Ht]
    · iapply hb.2
      isplitl [Hd] <;> iassumption
    isplitl [Hp] <;> iassumption

/-- The buffers the call does not touch. -/
def idleRefs : Finset (Ref sig .tc) := {main_arg0, main_v0, main_v1_1, main_v3_0, main_v3_1, main_v3_2, main_v4, main_v5}

/-- The unscoped buffers are the call's four and the others. -/
theorem unscopedBufs_eq (d : Dev nD) (W : (b : Ref sig .tc) → Buf (Elt F) ((d.tc : Thread nD τ).loc b)) :
    (unscopedBufs d W : sProp 𝕄) = iprop((aLoc d ↦{fullShare} W main_v1_0) ∗ (bLoc d ↦{fullShare} W main_arg1)
      ∗ (pLoc d ↦{fullShare} W main_v2_0) ∗ (oLoc d ↦{fullShare} W main_v2_1)
      ∗ bigSep idleRefs fun b => ((d.tc : Thread nD τ).loc b) ↦{fullShare} W b) := by
  unfold unscopedBufs
  rw [show (Finset.univ.filter fun b : Ref sig .tc => ¬ b.isScoped) = insert main_v1_0 (insert main_arg1 (insert main_v2_0 (insert main_v2_1 idleRefs))) by decide,
    SparseCore.bigSep_insert' (by decide), SparseCore.bigSep_insert' (by decide), SparseCore.bigSep_insert' (by decide), SparseCore.bigSep_insert' (by decide)]

/-- The buffers after the call. -/
def callOut (V : Valuation τ sig (Elt F)) : Valuation τ sig (Elt F) :=
  Function.update (Function.update V (dr main_v2_0) (pathsOf (V (dr main_v1_0)) (V (dr main_arg1)) : S16x2048.Idx → Elt F .i32))
    (dr main_v2_1) (lensOf (V (dr main_v1_0)) (V (dr main_arg1)) : S16x16.Idx → Elt F .i32)
theorem callOut_o (V : Valuation τ sig (Elt F)) : callOut V (dr main_v2_1) = lensOf (V (dr main_v1_0)) (V (dr main_arg1)) := by
  unfold callOut; exact Function.update_self _ _ _
theorem callOut_p (V : Valuation τ sig (Elt F)) : callOut V (dr main_v2_0) = pathsOf (V (dr main_v1_0)) (V (dr main_arg1)) := by
  unfold callOut; exact (Function.update_of_ne (dr_ne (by decide)) _ _).trans (Function.update_self _ _ _)
theorem callOut_ne (V : Valuation τ sig (Elt F)) {b : Ref sig .tc} (h2 : b ≠ main_v2_0) (h3 : b ≠ main_v2_1) :
    callOut V (dr b) = V (dr b) := by
  unfold callOut; exact (Function.update_of_ne (dr_ne h3) _ _).trans (Function.update_of_ne (dr_ne h2) _ _)

/-- What stays with the TensorCore during the call. -/
def idle (d : Dev nD) (V : Valuation τ sig (Elt F)) : sProp 𝕄 :=
  iprop((bLoc d ↦{Transfers.shareDrop fullShare 16} m (bLoc d)) ∗ bigSep idleRefs fun b => ((d.tc : Thread nD τ).loc b) ↦{fullShare} V (dr b))

/-- The unscoped buffers are dealt to the call, -/
theorem call_in (d : Dev nD) (V : Valuation τ sig (Elt F)) (ha : V (dr main_v1_0) = A d) (hb : V (dr main_arg1) = m (bLoc d))
    (hp : V (dr main_v2_0) = m (pLoc d)) (ho : V (dr main_v2_1) = m (oLoc d)) :
    (unscopedBufs d (fun b => V (dr b)) : sProp 𝕄) ⊢ iprop(bigSep (Finset.range 16) (rowIn m A d) ∗ idle m d V) := by
  rw [unscopedBufs_eq, ha, hb, hp, ho]
  have h := (rows_of_whole m A d (m (pLoc d)) (m (oLoc d))).1
  unfold idle
  iintro ⟨Ha, Hb, Hp, Ho, Hi⟩
  ihave H := h $$ [Ha Hb Hp Ho]
  · isplitl [Ha]; · iexact Ha
    isplitl [Hb]; · iexact Hb
    isplitl [Hp] <;> iassumption
  icases H with ⟨Hd, HR⟩
  isplitl [HR]; · iexact HR
  isplitl [Hd] <;> iassumption

/-- and come back with the call's results. -/
theorem call_out (d : Dev nD) (V : Valuation τ sig (Elt F)) (ha : V (dr main_v1_0) = A d) (hb : V (dr main_arg1) = m (bLoc d)) :
    (iprop(bigSep (Finset.range 16) (rowOut m A d) ∗ idle m d V) : sProp 𝕄) ⊢ unscopedBufs d (fun b => callOut V (dr b)) := by
  have h := (rows_of_whole m A d (pathsOf (A d) (m (bLoc d))) (lensOf (A d) (m (bLoc d)))).2
  rw [unscopedBufs_eq, callOut_p, callOut_o, callOut_ne V (b := main_v1_0) (by decide) (by decide), callOut_ne V (b := main_arg1) (by decide) (by decide), ha, hb,
    BI.bigSep_congr (s := idleRefs) (Ψ := fun b => ((d.tc : Thread nD τ).loc b) ↦{fullShare} V (dr b)) fun b hb => by
      rw [callOut_ne V (b := b) (fun h => by subst h; revert hb; decide) (fun h => by subst h; revert hb; decide)]]
  unfold idle
  iintro ⟨HR, Hd, Hi⟩
  ihave H := h $$ [HR Hd]
  · isplitl [Hd]; · iexact Hd
    iexact HR
  icases H with ⟨Ha, Hb, Hp, Ho⟩
  isplitl [Ha]; · iexact Ha
  isplitl [Hb]; · iexact Hb
  isplitl [Hp]; · iexact Hp
  isplitl [Ho] <;> iassumption

end Cert.Proof.Run

end
-- ==== Proof.Main.lean ====
/- The run of the whole program, over any float values: from any memory every execution ends with the buffers at the contents the steps of @main give them. -/
module

public import proofs.«01_k».proof.Proof.Call

@[expose] public section

set_option maxRecDepth 16384

noncomputable section

namespace Cert.Proof.Run

open Cert.KernelIdeal Cert.KernelIdeal.Gen Cert.Proof.Compact
open Idealize.ShloMosaic
open Idealize.ShloMosaic.TcCoe
open Idealize.ShloMosaic.SparseCore (S V T)
open Idealize.ShloMosaic.SparseCore.Cfg (HIx Pay)
open Idealize.ShloMosaic.ValueIdx (ix1 ix2 ix3)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers between the steps of @main -/

/-- The reshapes of @main. -/
abbrev op0 : HloOp τ sig (Elt F) := StableHlo.reshape main_arg1 main_v0 (rfl : (.i32 : EltTy) = .i32) shapeCasts_S16_S1x16
abbrev op4 : HloOp τ sig (Elt F) := StableHlo.reshape main_v3_2 main_v4 (rfl : (.f32 : EltTy) = .f32) shapeCasts_S1x16_S16
abbrev op5 : HloOp τ sig (Elt F) := StableHlo.reshape main_v3_1 main_v5 (rfl : (.i32 : EltTy) = .i32) shapeCasts_S1x16_S16

/-- The buffers at the launch, after the reshape of the lengths, after the dense region, after the call on the
    SparseCores, after the finish region, and after each of the two last reshapes. -/
def V0 (d : Dev nD) : Valuation τ sig (Elt F) := fun b => m (d, b)
def V1 (d : Dev nD) : Valuation τ sig (Elt F) := (op0 (F := F)).result (V0 m d)
def V2 (d : Dev nD) : Valuation τ sig (Elt F) := denseOut (V1 m d)
def V3 (d : Dev nD) : Valuation τ sig (Elt F) := callOut (V2 m d)
def V4 (d : Dev nD) : Valuation τ sig (Elt F) := finishOut (V3 m d)
def V5 (d : Dev nD) : Valuation τ sig (Elt F) := (op4 (F := F)).result (V4 m d)
def V6 (d : Dev nD) : Valuation τ sig (Elt F) := (op5 (F := F)).result (V5 m d)

/-- The first argmaxes, as the call finds them. -/
def amax (d : Dev nD) : S16x2048.Idx → BitVec 32 := amaxOf (m ((SparseCore.T d).loc main_arg0))

theorem V1_ne (d : Dev nD) {b : Ref sig .tc} (h : b ≠ main_v0) : V1 m d (dr b) = V0 m d (dr b) :=
  StableHlo.reshape_result_ne main_arg1 main_v0 rfl shapeCasts_S16_S1x16 _ _ _ h
theorem V2_a (d : Dev nD) : V2 m d (dr main_v1_0) = amax m d :=
  (denseOut_2 (V1 m d)).trans (congrArg amaxOf (V1_ne m d (b := main_arg0) (by decide)))
theorem V2_ne (d : Dev nD) {b : Ref sig .tc} (h : b ≠ main_v0) (h1 : b ≠ main_v1_0) (h2 : b ≠ main_v1_1) : V2 m d (dr b) = V0 m d (dr b) :=
  (denseOut_ne (V1 m d) h1 h2).trans (V1_ne m d h)

/-! ## The steps of @main -/

/-- The staging cells of the two regions are distinct. -/
theorem inj : Function.Injective (Pipeline.cellOf (nD := nD) (τ := τ) (Pipeline.pin (pcfgs (F := F)) adm)) := cellOf_inj

/-- The device's buffers that are not scoped. -/
def ucRefs : Finset (DevRef τ sig) := (StableHlo.tcRefs τ sig).filter fun b => ¬ b.isScoped

/-- The unscoped buffers at a valuation are that set held at it. -/
theorem unscopedBufs_held (c : Dev nD) (W : Valuation τ sig (Elt F)) :
    (unscopedBufs c (fun b => W (dr b)) : sProp 𝕄) = StableHlo.held (T c) ucRefs W := by
  unfold unscopedBufs StableHlo.held ucRefs StableHlo.tcRefs
  rw [Finset.filter_map, BI.bigSep_map]
  rfl

/-- An operation on the TensorCore's buffers touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- A host operation takes the unscoped buffers from a valuation to its result. -/
theorem wp_host (d : Dev nD) (op : HloOp τ sig (Elt F)) (hop : op.bufs ⊆ StableHlo.tcRefs τ sig) (hf : op.fresh = ∅) (V : Valuation τ sig (Elt F)) (Φ : PUnit → sProp 𝕄) :
    iprop(boundary (T d) ∗ unscopedBufs d (fun b => V (dr b)) ∗ ((boundary (T d) ∗ unscopedBufs d (fun b => op.result V (dr b))) -∗ Φ ⟨⟩))
      ⊢ wp frame (wpE ((K (F := F)).defs (D (F := F))) 𝒱 (T d) none) Set.univ (hlo rfl op (fun _ => .ret ⟨⟩)) Φ := by
  rw [unscopedBufs_held, unscopedBufs_held]
  iintro ⟨Hb, Hh, Hk⟩
  iapply (StableHlo.wp_hlo_within 𝒱 (T d) none Set.univ (op := op) (sub_ucRefs op hop) (V := V) hf) $$ [Hb Hh]
  · isplitl [Hb] <;> iassumption
  iintro H
  rw [wp_ret]
  imodintro
  iapply Hk; iexact H

set_option backward.isDefEq.respectTransparency.types false in
/-- The dense region takes the unscoped buffers from `Va` to `denseOut` of it; -/
theorem wp_dense (Va Vb : Dev nD → Valuation τ sig (Elt F)) [∀ e, Nonempty (Elt F e)] (d : Dev nD) (Φ : PUnit → sProp 𝕄) :
    iprop((iprop(boundary (T d) ∗ unscopedBufs d (rd (fun c => denseOut (Va c)) d) ∗ debt (F := F) d 0) -∗ Φ ⟨⟩)
        ∗ boundary (T d) ∗ (unscopedBufs d (rd Va d) ∗ debt (F := F) d 0) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Φ := by
  have h := Pipeline.RegionSeg.wp (p := 0) (pcfgs (F := F)) adm (dats Va Vb) none inj EP defs₀ 𝒱₀ (K (F := F)).L (K (F := F)).lev (segA Va Vb) d none
    (fun u hu => nomatch hu) .ret Φ
  have h' := (K (F := F)).wp_liftProg (D (F := F)) 𝒱 (T d) Set.univ none (.op (.customCall (Pipeline.entry 0) ()) .ret) Φ
  refine BIBase.Entails.trans ?_ h'
  refine BIBase.Entails.trans ?_ h
  iintro ⟨Hk, H⟩
  isplitl [Hk]
  · iintro H
    rw [wp_ret]
    imodintro
    iapply Hk; iexact H
  iexact H

set_option backward.isDefEq.respectTransparency.types false in
/-- the finish region takes them from `Vb` to `finishOut` of it. -/
theorem wp_finish (Va Vb : Dev nD → Valuation τ sig (Elt F)) [∀ e, Nonempty (Elt F e)] (d : Dev nD) (Φ : PUnit → sProp 𝕄) :
    iprop((iprop(boundary (T d) ∗ unscopedBufs d (rd (fun c => finishOut (Vb c)) d) ∗ debt (F := F) d 1) -∗ Φ ⟨⟩)
        ∗ boundary (T d) ∗ (unscopedBufs d (rd Vb d) ∗ debt (F := F) d 1) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Φ := by
  have h := Pipeline.RegionSeg.wp (p := 1) (pcfgs (F := F)) adm (dats Va Vb) none inj EP defs₀ 𝒱₀ (K (F := F)).L (K (F := F)).lev (segB Va Vb) d none
    (fun u hu => nomatch hu) .ret Φ
  have h' := (K (F := F)).wp_liftProg (D (F := F)) 𝒱 (T d) Set.univ none (.op (.customCall (Pipeline.entry 1) ()) .ret) Φ
  refine BIBase.Entails.trans ?_ h'
  refine BIBase.Entails.trans ?_ h
  iintro ⟨Hk, H⟩
  isplitl [Hk]
  · iintro H
    rw [wp_ret]
    imodintro
    iapply Hk; iexact H
  iexact H

/-! ## @main on the TensorCore -/

/-- The pipelines' ghost state of core `d`. -/
def ghosts (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

/-- At the end the unscoped buffers are held at `V6`. -/
def FIN (d : Dev nD) : sProp 𝕄 := unscopedBufs d (fun b => V6 m d (dr b))

/-- The conjunction over the two regions, listed. -/
theorem fin2 (Φ : Fin 2 → sProp 𝕄) : bigSep Finset.univ Φ = iprop(Φ 0 ∗ Φ 1) := BI.bigSep_fin_two Φ

/-- @main on device `d`'s TensorCore, step by step. -/
theorem hmain [∀ e, Nonempty (Elt F e)] (κ : GSem nD τ sig → ℕ) (d : Dev nD) :
    iprop((K (F := F)).ctx EH (P m (amax m)) κ ∗ (K (F := F)).tcSt EH d 0 ∗ (K (F := F)).tcRes m ρ d ∗ ghosts d)
      ⊢ wp frame (wpE ((K (F := F)).defs (D (F := F))) 𝒱 (T d) none) Set.univ (main d)
          fun _ => iprop((K (F := F)).tcSt EH d 1 ∗ FIN m d ∗ (K (F := F)).tcEnd d) := by
  have hlev := SparseCore.Cfg.ctx_levAts (K := K (F := F)) (EH := EH) (P := P m (amax m)) κ (lv := (K (F := F)).lev)
  have hin : (unscopedBufs d (rd (fun c => denseOut (V1 m c)) d) : sProp 𝕄) ⊢ iprop(bigSep (Finset.range 16) (rowIn m (amax m) d) ∗ idle m d (V2 m d)) := call_in m (amax m) d (V2 m d) (V2_a m d) (V2_ne m d (b := main_arg1) (by decide) (by decide) (by decide))
    (V2_ne m d (b := main_v2_0) (by decide) (by decide) (by decide)) (V2_ne m d (b := main_v2_1) (by decide) (by decide) (by decide))
  have hout : (iprop(bigSep (Finset.range 16) (rowOut m (amax m) d) ∗ idle m d (V2 m d)) : sProp 𝕄) ⊢ unscopedBufs d (rd (V3 m) d) := call_out m (amax m) d (V2 m d) (V2_a m d) (V2_ne m d (b := main_arg1) (by decide) (by decide) (by decide))
  unfold SparseCore.Cfg.tcRes SparseCore.Cfg.tcEnd ghosts main
  rw [fin2, fin2]
  simp only [wp_bind, wp_pure]
  iintro ⟨#Hctx, Hst, ⟨Hb, Hub, Hts, -⟩, ⟨Hg0, Hg1⟩, Ht0, Ht1⟩
  ihave #Hlev := hlev $$ Hctx
  iapply (wp_host d op0 (StableHlo.reshape_bufs_sub ..) rfl (V0 m d))
  isplitl [Hb]; · iexact Hb
  isplitl [Hub]; · iexact Hub
  iintro ⟨Hb, Hub⟩
  unfold SparseCore.Cfg.tcSt
  icases Hst with ⟨HO, Hst⟩
  iapply (wp_dense (V1 m) (V3 m) d)
  isplitr [Hb Hub HO Hg0 Ht0]
  · iintro ⟨Hb, Hub, HO⟩
    iapply ((K (F := F)).wp_run (D (F := F)) 𝒱 (EH := EH) (P := P m (amax m)) κ d 0)
    isplitr; · iexact Hctx
    isplitl [HO Hst]
    · unfold SparseCore.Cfg.tcSt
      isplitl [HO]; · iexact HO
      iexact Hst
    ihave Hc := hin $$ Hub
    icases Hc with ⟨Hrows, Hidle⟩
    isplitl [Hrows]
    · rw [st_eq]; iexact Hrows
    iintro ⟨Hst, Hdn⟩
    ihave Hdn' := (Entails.of_eq (dn_eq m (amax m) d)) $$ Hdn
    ihave Hub := hout $$ [Hdn' Hidle]
    · isplitl [Hdn'] <;> iassumption
    unfold SparseCore.Cfg.tcSt
    icases Hst with ⟨HO, Hst⟩
    iapply (wp_finish (V1 m) (V3 m) d)
    isplitr [Hb Hub HO Hg1 Ht1]
    · iintro ⟨Hb, Hub, HO⟩
      iapply (wp_host d op4 (StableHlo.reshape_bufs_sub ..) rfl (V4 m d))
      isplitl [Hb]; · iexact Hb
      isplitl [Hub]; · iexact Hub
      iintro ⟨Hb, Hub⟩
      iapply (wp_host d op5 (StableHlo.reshape_bufs_sub ..) rfl (V5 m d))
      isplitl [Hb]; · iexact Hb
      isplitl [Hub]; · iexact Hub
      iintro ⟨Hb, Hub⟩
      imodintro
      isplitl [HO Hst]
      · isplitl [HO]; · iexact HO
        iexact Hst
      isplitl [Hub]
      · unfold FIN; iexact Hub
      isplitl [Hb] <;> iassumption
    · isplitl [Hb]; · iexact Hb
      isplitl [Hub HO]
      · isplitl [Hub]; · iexact Hub
        iexact HO
      isplitr; · iexact Hlev
      isplitl [Hg1] <;> iassumption
  · isplitl [Hb]; · iexact Hb
    isplitl [Hub HO]
    · isplitl [Hub]; · iexact Hub
      iexact HO
    isplitr; · iexact Hlev
    isplitl [Hg0] <;> iassumption

end Cert.Proof.Run

end
-- ==== Proof.Whole.lean ====
/- The run of the whole program from the launch: every buffer of the TensorCore that is not scoped ends at the contents `V6` gives it. -/
module

public import proofs.«01_k».proof.Proof.Main

@[expose] public section

set_option maxRecDepth 16384

noncomputable section

namespace Cert.Proof.Run

open Cert.KernelIdeal Cert.KernelIdeal.Gen Cert.Proof.Compact
open Idealize.ShloMosaic
open Idealize.ShloMosaic.TcCoe
open Idealize.ShloMosaic.SparseCore (S V T)
open Idealize.ShloMosaic.SparseCore.Cfg (HIx Pay)
open Idealize.ShloMosaic.ValueIdx (ix1 ix2 ix3)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The launch's ghost element: the handshakes' rounds, the pipelines' rounds, no counter. -/
def u₀ : UU := (initOf (K (F := F)).hsCells (K (F := F)).hsToks,
  (initOf (Pipeline.cells (Pipeline.pin (pcfgs (F := F)) adm) (inj (F := F))) (Pipeline.launchToks (Pipeline.pin (pcfgs (F := F)) adm) (inj (F := F))), 1))

omit [FloatOps F] in
/-- It splits into the handshakes' part and the pipelines'. -/
theorem ownU_split (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The launch's ghost element gives the handshakes' rounds and each core's pipelines' ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (P m (amax m)).x q thr) := by
  have hx : (bigSep Finset.univ fun thr : Thread nD τ => bigSep Finset.univ fun q : Fin 1 => (P m (amax m)).x q thr) = (iprop(emp) : sProp 𝕄) :=
    (BI.bigSep_congr fun _ _ => BI.bigSep_emp_const _).trans (BI.bigSep_emp_const _)
  have hfund := Pipeline.fund_ghost (Pipeline.pin (pcfgs (F := F)) adm) (EP (F := F)) (inj (F := F))
  rw [hx]
  unfold u₀ ghosts
  rw [BI.bigSep_sep']
  iintro Hu
  ihave H := (ownU_split _ _) $$ Hu
  icases H with ⟨HH, HP⟩
  imod hfund $$ HP with HG
  imodintro
  isplitl [HH]; · iexact HH
  isplitl [HG]; · iexact HG
  iempintro

/-- What the end of the run says of device `d`'s buffers. -/
def fq (d : Dev nD) (s' : Phys nD τ sig (Elt F)) : Prop := ∀ b : Ref sig .tc, ¬ b.isScoped → s'.mem.mem ((d : Thread nD τ).loc b) = V6 m d (dr b)

theorem hfin (d : Dev nD) (s' : Phys nD τ sig (Elt F)) : iprop(FIN m d ∗ SI s') ⊢ (⌜fq m d s'⌝ : sProp 𝕄) := by
  unfold fq FIN unscopedBufs
  refine BIBase.Entails.trans (Laws.forall_intro fun b => pure_imp_intro fun hb => ?_) pure_forall.2
  have hb' : b ∈ Finset.univ.filter fun b : Ref sig .tc => ¬ b.isScoped := Finset.mem_filter.mpr ⟨Finset.mem_univ _, hb⟩
  rw [SparseCore.bigSep_erase' hb']
  iintro ⟨⟨Hb, -⟩, HSI⟩
  ihave H := (SI_pointsTo_agree (st := s') (ℓ := (d : Thread nD τ).loc b) (I := Finset.univ) (q := fullShare) (f := V6 m d (dr b))) $$ [HSI Hb]
  · isplitl [HSI] <;> iassumption
  icases H with %h
  ipureintro; exact funext fun i => h i (Finset.mem_univ i)

/-- The final states of the run. -/
def QC : PUnit × MemSt nD τ sig (Elt F) → Prop := fun r =>
  (∀ (d : Dev nD) (b : Ref sig .tc), ¬ b.isScoped → r.2.mem ((d : Thread nD τ).loc b) = V6 m d (dr b)) ∧ r.2.sem = fun _ => 0

/-- Every execution of the program ends, with every unscoped buffer at `V6` and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (amax m)) (A := ∅) facts v₀
    (fun q hq => match q with | 0 => nomatch hq)
    (fun q _ => match q with | 0 => tileObl m (amax m) facts)
    (fun q _ => match q with | 0 => SparseCore.Cfg.VecSplit.of_plain (vecSplit m (amax m)))
    m ρ main (ghosts (F := F)) (FIN m) (u₀ (F := F)) (sep_elim_left.trans (hu₀ m)) (hmain m ρ) (fq m) (hfin m) (QC m) (fun _ h hz => ⟨h, hz⟩)

/-- A buffer no step writes ends as launched. -/
theorem V6_kept (d : Dev nD) {b : Ref sig .tc} (h : b ≠ main_v0) (h1 : b ≠ main_v1_0) (h2 : b ≠ main_v1_1) (h3 : b ≠ main_v2_0) (h4 : b ≠ main_v2_1)
    (h5 : b ≠ main_v3_0) (h6 : b ≠ main_v3_1) (h7 : b ≠ main_v3_2) (h8 : b ≠ main_v4) (h9 : b ≠ main_v5) : V6 m d (dr b) = m ((d : Thread nD τ).loc b) :=
  (StableHlo.reshape_result_ne main_v3_1 main_v5 rfl shapeCasts_S1x16_S16 _ _ _ h9).trans
    ((StableHlo.reshape_result_ne main_v3_2 main_v4 rfl shapeCasts_S1x16_S16 _ _ _ h8).trans
      ((finishOut_ne (V3 m d) h5 h6 h7).trans ((callOut_ne (V2 m d) h3 h4).trans (V2_ne m d h h1 h2))))

theorem V6_arg0 (d : Dev nD) : V6 m d (dr main_arg0) = m ((d : Thread nD τ).loc main_arg0) :=
  V6_kept m d (by decide) (by decide) (by decide) (by decide) (by decide) (by decide) (by decide) (by decide) (by decide) (by decide)
theorem V6_arg1 (d : Dev nD) : V6 m d (dr main_arg1) = m ((d : Thread nD τ).loc main_arg1) :=
  V6_kept m d (by decide) (by decide) (by decide) (by decide) (by decide) (by decide) (by decide) (by decide) (by decide) (by decide)

end Cert.Proof.Run

end
-- ==== Proof.Same.lean ====
/- The kernel and the ideal kernel are one text: their body tables are equal, and so the run of the one is the run of the other. -/
module

public import proofs.«01_k».proof.Defs
public import proofs.«01_k».proof.Proof.Gen.Kernel
public import proofs.«01_k».proof.Proof.Whole

@[expose] public section

noncomputable section

namespace Cert.Proof.Same

open Idealize.ShloMosaic Idealize.SL.Sem

/-- The kernels' body tables are the same, label by label. -/
theorem defs₀_eq : Cert.Kernel.defs₀ (F := Bits) = Cert.KernelIdeal.defs₀ := by
  funext p ℓ a
  rcases p with _ | ⟨c⟩ | ⟨c, s⟩ <;> rcases ℓ with ⟨_ | _ | _ | n, h⟩ <;> rfl

/-- So are the whole tables. -/
theorem defs_eq : Cert.Kernel.defs (F := Bits) = Cert.KernelIdeal.defs :=
  congrArg (fun D => (Cert.KernelIdeal.sc (F := Bits)).defs (Pipeline.defs Cert.KernelIdeal.pcfgs D)) defs₀_eq

/-- The kernel over bits ends, its arguments kept and its counters at zero. -/
theorem frame_kernel : Cert.quiescent_Kernel := fun m ρ _ =>
  (congrArg (fun D => θ_run D (Cert.Kernel.threads (F := Bits)) ⟨m, fun _ => 0, ρ⟩ _) defs_eq).mpr
    ((θ_run Cert.KernelIdeal.defs Cert.KernelIdeal.threads ⟨m, fun _ => 0, ρ⟩).mono
      (fun _ h => ⟨fun c => ⟨(h.1 c Cert.KernelIdeal.main_arg0 (by decide)).trans (Run.V6_arg0 m c),
        (h.1 c Cert.KernelIdeal.main_arg1 (by decide)).trans (Run.V6_arg1 m c)⟩, h.2⟩) (Run.run_main (F := Bits) m ρ))

end Cert.Proof.Same
-- ==== Proof.Ref.lean ====
/- The run of the reference program: its operations in seven pieces, what each piece leaves in the buffers that are read later, and
   the frame. -/
module

public import Idealize.ShloMosaic.Lib.StableHlo.RunRead
public import Idealize.ShloMosaic.Lib.Quiescent
public import proofs.«01_k».proof.Defs
public import proofs.«01_k».proof.Proof.Gen.ReferenceIdeal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- A first column and the other columns, side by side. -/
def joined : IVec S16x1 1 → IVec S16x2047 1 → IVec S16x2048 1 := fun a b =>
  concatenate S16x2048 1 [⟨S16x1, a⟩, ⟨S16x2047, b⟩] concatenates_S16x1_S16x2047_S16x2048_d1

/-- @main's operations for the log-softmax, transposed. -/
abbrev opsA : List (HloOp τ sig (Elt F)) :=
  [ nullary main_call0_cst (constant S_ .f32 0xFF800000#32),
    binary main_arg0 main_call0_cst main_call0_v0 ((fun x v => Host.reduce FloatOps.maximumf x v reducesTo_S2048x16x1024_S2048x16_d2 h_S_) : (⟨S2048x16x1024, .f32⟩ : BufTy).Contents (Elt F) → (⟨S_, .f32⟩ : BufTy).Contents (Elt F) → (⟨S2048x16, .f32⟩ : BufTy).Contents (Elt F)),
    nullary main_call0_cst_0 (constant S_ .f32 0xFF800000#32),
    unary main_call0_cst_0 main_call0_v1 ((broadcastInDim S2048x16 ![] bcast_S_S2048x16) : (⟨S_, .f32⟩ : BufTy).Contents (Elt F) → (⟨S2048x16, .f32⟩ : BufTy).Contents (Elt F)),
    binary main_call0_v1 main_call0_v0 main_call0_v2 (maximumf : (⟨S2048x16, .f32⟩ : BufTy).Contents (Elt F) → (⟨S2048x16, .f32⟩ : BufTy).Contents (Elt F) → (⟨S2048x16, .f32⟩ : BufTy).Contents (Elt F)),
    unary main_call0_v2 main_call0_v3 ((broadcastInDim S2048x16x1 ![0, 1] bcast_S2048x16_S2048x16x1_0_1) : (⟨S2048x16, .f32⟩ : BufTy).Contents (Elt F) → (⟨S2048x16x1, .f32⟩ : BufTy).Contents (Elt F)),
    unary main_call0_v3 main_call0_v4 ((broadcastInDim S2048x16x1024 ![0, 1, 2] bcast_S2048x16x1_S2048x16x1024_0_1_2) : (⟨S2048x16x1, .f32⟩ : BufTy).Contents (Elt F) → (⟨S2048x16x1024, .f32⟩ : BufTy).Contents (Elt F)),
    binary main_arg0 main_call0_v4 main_call0_v5 (subf : (⟨S2048x16x1024, .f32⟩ : BufTy).Contents (Elt F) → (⟨S2048x16x1024, .f32⟩ : BufTy).Contents (Elt F) → (⟨S2048x16x1024, .f32⟩ : BufTy).Contents (Elt F)),
    unary main_call0_v5 main_call0_v6 (Host.exp : (⟨S2048x16x1024, .f32⟩ : BufTy).Contents (Elt F) → (⟨S2048x16x1024, .f32⟩ : BufTy).Contents (Elt F)),
    nullary main_call0_cst_1 (constant S_ .f32 0x00000000#32),
    binary main_call0_v6 main_call0_cst_1 main_call0_v7 ((fun x v => Host.reduceAdd x v reducesTo_S2048x16x1024_S2048x16_d2 h_S_) : (⟨S2048x16x1024, .f32⟩ : BufTy).Contents (Elt F) → (⟨S_, .f32⟩ : BufTy).Contents (Elt F) → (⟨S2048x16, .f32⟩ : BufTy).Contents (Elt F)),
    unary main_call0_v7 main_call0_v8 ((broadcastInDim S2048x16x1 ![0, 1] bcast_S2048x16_S2048x16x1_0_1) : (⟨S2048x16, .f32⟩ : BufTy).Contents (Elt F) → (⟨S2048x16x1, .f32⟩ : BufTy).Contents (Elt F)),
    unary main_call0_v8 main_call0_v9 (Host.log : (⟨S2048x16x1, .f32⟩ : BufTy).Contents (Elt F) → (⟨S2048x16x1, .f32⟩ : BufTy).Contents (Elt F)),
    unary main_call0_v9 main_call0_v10 ((broadcastInDim S2048x16x1024 ![0, 1, 2] bcast_S2048x16x1_S2048x16x1024_0_1_2) : (⟨S2048x16x1, .f32⟩ : BufTy).Contents (Elt F) → (⟨S2048x16x1024, .f32⟩ : BufTy).Contents (Elt F)),
    binary main_call0_v5 main_call0_v10 main_v0 (subf : (⟨S2048x16x1024, .f32⟩ : BufTy).Contents (Elt F) → (⟨S2048x16x1024, .f32⟩ : BufTy).Contents (Elt F) → (⟨S2048x16x1024, .f32⟩ : BufTy).Contents (Elt F)),
    unary main_v0 main_v1 ((transpose S16x2048x1024 [1, 0, 2] · transposes_S2048x16x1024_S16x2048x1024_1_0_2) : (⟨S2048x16x1024, .f32⟩ : BufTy).Contents (Elt F) → (⟨S16x2048x1024, .f32⟩ : BufTy).Contents (Elt F)) ]

/-- The buffers these operations write. -/
abbrev wrA : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v0, main_v1]

/-- Operation by operation. -/
theorem writesA : (opsA (F := F)).map HloOp.writes = wrA.map fun w => {Proc.devRef (τ := τ) .tc w} := rfl

/-- They touch buffers of the TensorCore only. -/
theorem subA : (opsA (F := F)).Forall fun op => op.bufs ⊆ tcRefs τ sig := ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩

/-- @main's operations for its maximum and its first maximal index. -/
abbrev opsB : List (HloOp τ sig (Elt F)) :=
  [ nullary main_cst (constant S_ .f32 0xFF800000#32),
    binary main_v1 main_cst main_v2 ((fun x v => Host.reduce FloatOps.maximumf x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
    nullary main_call1_v0 (iotaInDim S16x2048x1024 32 2),
    nullary main_call1_cst (constant S_ .f32 0xFF800000#32),
    nullary main_call1_c (constantI S_ 32 0#32),
    quaternary main_v1 main_call1_v0 main_call1_cst main_call1_c main_call1_v1_0 ((fun x y u v j => (Host.argReduce reducer_argmax_f32_i32 x y u v reducesTo_S16x2048x1024_S16x2048_d2 h_S_ j).1) : (⟨S16x2048x1024, .f32⟩ : BufTy).Contents (Elt F) → (⟨S16x2048x1024, .i32⟩ : BufTy).Contents (Elt F) → (⟨S_, .f32⟩ : BufTy).Contents (Elt F) → (⟨S_, .i32⟩ : BufTy).Contents (Elt F) → (⟨S16x2048, .f32⟩ : BufTy).Contents (Elt F)),
    quaternary main_v1 main_call1_v0 main_call1_cst main_call1_c main_v3 ((fun x y u v j => (Host.argReduce reducer_argmax_f32_i32 x y u v reducesTo_S16x2048x1024_S16x2048_d2 h_S_ j).2) : (⟨S16x2048x1024, .f32⟩ : BufTy).Contents (Elt F) → (⟨S16x2048x1024, .i32⟩ : BufTy).Contents (Elt F) → (⟨S_, .f32⟩ : BufTy).Contents (Elt F) → (⟨S_, .i32⟩ : BufTy).Contents (Elt F) → (⟨S16x2048, .i32⟩ : BufTy).Contents (Elt F)) ]

/-- The buffers these operations write. -/
abbrev wrB : List (Ref sig .tc) := [main_cst, main_v2, main_call1_v0, main_call1_cst, main_call1_c, main_call1_v1_0, main_v3]

/-- Operation by operation. -/
theorem writesB : (opsB (F := F)).map HloOp.writes = wrB.map fun w => {Proc.devRef (τ := τ) .tc w} := rfl

/-- They touch buffers of the TensorCore only. -/
theorem subB : (opsB (F := F)).Forall fun op => op.bufs ⊆ tcRefs τ sig := ⟨nullary_bufs_sub .., binary_bufs_sub .., nullary_bufs_sub .., nullary_bufs_sub .., nullary_bufs_sub .., quaternary_bufs_sub .., quaternary_bufs_sub ..⟩

/-- @main's operations for which positions are kept. -/
abbrev opsC : List (HloOp τ sig (Elt F)) :=
  [ nullary main_c (constantI S_ 32 0#32),
    unary main_c main_v4 (broadcastInDim S16x2048 ![] bcast_S_S16x2048 : (⟨S_, .i32⟩ : BufTy).Contents (Elt F) → (⟨S16x2048, .i32⟩ : BufTy).Contents (Elt F)),
    binary main_v3 main_v4 main_v5 (cmpi .ne : (⟨S16x2048, .i32⟩ : BufTy).Contents (Elt F) → (⟨S16x2048, .i32⟩ : BufTy).Contents (Elt F) → (⟨S16x2048, .i1⟩ : BufTy).Contents (Elt F)),
    unary main_v5 main_v6 ((extractStridedSlice S16x2047 ![0, 1] · slices_S16x2048_S16x2047_0_1) : (⟨S16x2048, .i1⟩ : BufTy).Contents (Elt F) → (⟨S16x2047, .i1⟩ : BufTy).Contents (Elt F)),
    unary main_v3 main_v7 ((extractStridedSlice S16x2047 ![0, 1] · slices_S16x2048_S16x2047_0_1) : (⟨S16x2048, .i32⟩ : BufTy).Contents (Elt F) → (⟨S16x2047, .i32⟩ : BufTy).Contents (Elt F)),
    unary main_v3 main_v8 ((extractStridedSlice S16x2047 ![0, 0] · slices_S16x2048_S16x2047_0_0) : (⟨S16x2048, .i32⟩ : BufTy).Contents (Elt F) → (⟨S16x2047, .i32⟩ : BufTy).Contents (Elt F)),
    binary main_v7 main_v8 main_v9 (cmpi .ne : (⟨S16x2047, .i32⟩ : BufTy).Contents (Elt F) → (⟨S16x2047, .i32⟩ : BufTy).Contents (Elt F) → (⟨S16x2047, .i1⟩ : BufTy).Contents (Elt F)),
    binary main_v6 main_v9 main_v10 (andi : (⟨S16x2047, .i1⟩ : BufTy).Contents (Elt F) → (⟨S16x2047, .i1⟩ : BufTy).Contents (Elt F) → (⟨S16x2047, .i1⟩ : BufTy).Contents (Elt F)),
    unary main_v5 main_v11 ((extractStridedSlice S16x1 ![0, 0] · slices_S16x2048_S16x1_0_0) : (⟨S16x2048, .i1⟩ : BufTy).Contents (Elt F) → (⟨S16x1, .i1⟩ : BufTy).Contents (Elt F)),
    binary main_v11 main_v10 main_v12 joined,
    nullary main_v13 (iotaInDim S2048 32 0),
    unary main_v13 main_v14 (broadcastInDim S1x2048 ![1] bcast_S2048_S1x2048_1 : (⟨S2048, .i32⟩ : BufTy).Contents (Elt F) → (⟨S1x2048, .i32⟩ : BufTy).Contents (Elt F)),
    unary main_arg1 main_v15 (broadcastInDim S16x1 ![0] bcast_S16_S16x1_0 : (⟨S16, .i32⟩ : BufTy).Contents (Elt F) → (⟨S16x1, .i32⟩ : BufTy).Contents (Elt F)),
    unary main_v14 main_v16 (broadcastInDim S16x2048 ![0, 1] bcast_S1x2048_S16x2048_0_1 : (⟨S1x2048, .i32⟩ : BufTy).Contents (Elt F) → (⟨S16x2048, .i32⟩ : BufTy).Contents (Elt F)),
    unary main_v15 main_v17 (broadcastInDim S16x2048 ![0, 1] bcast_S16x1_S16x2048_0_1 : (⟨S16x1, .i32⟩ : BufTy).Contents (Elt F) → (⟨S16x2048, .i32⟩ : BufTy).Contents (Elt F)),
    binary main_v16 main_v17 main_v18 (cmpi .slt : (⟨S16x2048, .i32⟩ : BufTy).Contents (Elt F) → (⟨S16x2048, .i32⟩ : BufTy).Contents (Elt F) → (⟨S16x2048, .i1⟩ : BufTy).Contents (Elt F)),
    binary main_v12 main_v18 main_v19 (andi : (⟨S16x2048, .i1⟩ : BufTy).Contents (Elt F) → (⟨S16x2048, .i1⟩ : BufTy).Contents (Elt F) → (⟨S16x2048, .i1⟩ : BufTy).Contents (Elt F)) ]

/-- The buffers these operations write. -/
abbrev wrC : List (Ref sig .tc) := [main_c, main_v4, main_v5, main_v6, main_v7, main_v8, main_v9, main_v10, main_v11, main_v12, main_v13, main_v14, main_v15, main_v16, main_v17, main_v18, main_v19]

/-- Operation by operation. -/
theorem writesC : (opsC (F := F)).map HloOp.writes = wrC.map fun w => {Proc.devRef (τ := τ) .tc w} := rfl

/-- They touch buffers of the TensorCore only. -/
theorem subC : (opsC (F := F)).Forall fun op => op.bufs ⊆ tcRefs τ sig := ⟨nullary_bufs_sub .., unary_bufs_sub .., binary_bufs_sub .., unary_bufs_sub .., unary_bufs_sub .., unary_bufs_sub .., binary_bufs_sub .., binary_bufs_sub .., unary_bufs_sub .., binary_bufs_sub .., nullary_bufs_sub .., unary_bufs_sub .., unary_bufs_sub .., unary_bufs_sub .., unary_bufs_sub .., binary_bufs_sub .., binary_bufs_sub ..⟩

/-- @main's operations for the scores, the counts and the sort keys. -/
abbrev opsD : List (HloOp τ sig (Elt F)) :=
  [ nullary main_cst_0 (constant S_ .f32 0x00000000#32),
    unary main_cst_0 main_call2_v0 (id : (⟨S_, .f32⟩ : BufTy).Contents (Elt F) → (⟨S_, .f32⟩ : BufTy).Contents (Elt F)),
    unary main_call2_v0 main_call2_v1 ((broadcastInDim S16x2048 ![] bcast_S_S16x2048) : (⟨S_, .f32⟩ : BufTy).Contents (Elt F) → (⟨S16x2048, .f32⟩ : BufTy).Contents (Elt F)),
    ternary main_v18 main_v2 main_call2_v1 main_v20 (select : (⟨S16x2048, .i1⟩ : BufTy).Contents (Elt F) → (⟨S16x2048, .f32⟩ : BufTy).Contents (Elt F) → (⟨S16x2048, .f32⟩ : BufTy).Contents (Elt F) → (⟨S16x2048, .f32⟩ : BufTy).Contents (Elt F)),
    unary main_v19 main_v21 ((extui 32 · natLt_1_32) : (⟨S16x2048, .i1⟩ : BufTy).Contents (Elt F) → (⟨S16x2048, .i32⟩ : BufTy).Contents (Elt F)),
    nullary main_c_1 (constantI S_ 32 0#32),
    binary main_v21 main_c_1 main_v22 ((fun x v => Host.reduce IntOp.addi x v reducesTo_S16x2048_S16_d1 h_S_) : (⟨S16x2048, .i32⟩ : BufTy).Contents (Elt F) → (⟨S_, .i32⟩ : BufTy).Contents (Elt F) → (⟨S16, .i32⟩ : BufTy).Contents (Elt F)),
    unary main_v19 main_v23 (noti : (⟨S16x2048, .i1⟩ : BufTy).Contents (Elt F) → (⟨S16x2048, .i1⟩ : BufTy).Contents (Elt F)),
    unary main_v23 main_v24 ((extui 32 · natLt_1_32) : (⟨S16x2048, .i1⟩ : BufTy).Contents (Elt F) → (⟨S16x2048, .i32⟩ : BufTy).Contents (Elt F)) ]

/-- The buffers these operations write. -/
abbrev wrD : List (Ref sig .tc) := [main_cst_0, main_call2_v0, main_call2_v1, main_v20, main_v21, main_c_1, main_v22, main_v23, main_v24]

/-- Operation by operation. -/
theorem writesD : (opsD (F := F)).map HloOp.writes = wrD.map fun w => {Proc.devRef (τ := τ) .tc w} := rfl

/-- They touch buffers of the TensorCore only. -/
theorem subD : (opsD (F := F)).Forall fun op => op.bufs ⊆ tcRefs τ sig := ⟨nullary_bufs_sub .., unary_bufs_sub .., unary_bufs_sub .., ternary_bufs_sub .., unary_bufs_sub .., nullary_bufs_sub .., binary_bufs_sub .., unary_bufs_sub .., unary_bufs_sub ..⟩

/-- @main's operations for the stable sort. -/
abbrev opsE : List (HloOp τ sig (Elt F)) :=
  [ nullary main_call3_v0 (iotaInDim S16x2048 32 1),
    binary main_v24 main_call3_v0 main_call3_v1_0 ((fun x y => (Host.sort2 S16x2048 1 comparator_i32_i32_d1 x y).1) : (⟨S16x2048, .i32⟩ : BufTy).Contents (Elt F) → (⟨S16x2048, .i32⟩ : BufTy).Contents (Elt F) → (⟨S16x2048, .i32⟩ : BufTy).Contents (Elt F)),
    binary main_v24 main_call3_v0 main_v25 ((fun x y => (Host.sort2 S16x2048 1 comparator_i32_i32_d1 x y).2) : (⟨S16x2048, .i32⟩ : BufTy).Contents (Elt F) → (⟨S16x2048, .i32⟩ : BufTy).Contents (Elt F) → (⟨S16x2048, .i32⟩ : BufTy).Contents (Elt F)) ]

/-- The buffers these operations write. -/
abbrev wrE : List (Ref sig .tc) := [main_call3_v0, main_call3_v1_0, main_v25]

/-- Operation by operation. -/
theorem writesE : (opsE (F := F)).map HloOp.writes = wrE.map fun w => {Proc.devRef (τ := τ) .tc w} := rfl

/-- They touch buffers of the TensorCore only. -/
theorem subE : (opsE (F := F)).Forall fun op => op.bufs ⊆ tcRefs τ sig := ⟨nullary_bufs_sub .., binary_bufs_sub .., binary_bufs_sub ..⟩

/-- @main's operations for the gather along each row. -/
abbrev opsG : List (HloOp τ sig (Elt F)) :=
  [ nullary main_call4_c (constantI S_ 32 0#32),
    unary main_call4_c main_call4_v0 ((broadcastInDim S16x2048 ![] bcast_S_S16x2048) : (⟨S_, .i32⟩ : BufTy).Contents (Elt F) → (⟨S16x2048, .i32⟩ : BufTy).Contents (Elt F)),
    binary main_v25 main_call4_v0 main_call4_v1 ((cmpi .slt) : (⟨S16x2048, .i32⟩ : BufTy).Contents (Elt F) → (⟨S16x2048, .i32⟩ : BufTy).Contents (Elt F) → (⟨S16x2048, .i1⟩ : BufTy).Contents (Elt F)),
    nullary main_call4_c_0 (constantI S_ 32 2048#32),
    unary main_call4_c_0 main_call4_v2 ((broadcastInDim S16x2048 ![] bcast_S_S16x2048) : (⟨S_, .i32⟩ : BufTy).Contents (Elt F) → (⟨S16x2048, .i32⟩ : BufTy).Contents (Elt F)),
    binary main_v25 main_call4_v2 main_call4_v3 (addi : (⟨S16x2048, .i32⟩ : BufTy).Contents (Elt F) → (⟨S16x2048, .i32⟩ : BufTy).Contents (Elt F) → (⟨S16x2048, .i32⟩ : BufTy).Contents (Elt F)),
    ternary main_call4_v1 main_call4_v3 main_v25 main_call4_v4 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)),
    reshape main_call4_v4 main_call4_v5 (rfl : (.i32 : EltTy) = .i32) shapeCasts_S16x2048_S16x2048x1,
    nullary main_call4_c_1 (constantI S1 32 2047#32),
    nullary main_call4_c_2 (constantI S_ 32 0#32),
    unary main_call4_c_2 main_call4_v6 ((broadcastInDim S16x2048x1 ![] bcast_S_S16x2048x1) : (⟨S_, .i32⟩ : BufTy).Contents (Elt F) → (⟨S16x2048x1, .i32⟩ : BufTy).Contents (Elt F)),
    binary main_call4_v5 main_call4_v6 main_call4_v7 ((cmpi .sge) : (⟨S16x2048x1, .i32⟩ : BufTy).Contents (Elt F) → (⟨S16x2048x1, .i32⟩ : BufTy).Contents (Elt F) → (⟨S16x2048x1, .i1⟩ : BufTy).Contents (Elt F)),
    unary main_call4_c_1 main_call4_v8 ((broadcastInDim S1x1x1 ![2] bcast_S1_S1x1x1_2) : (⟨S1, .i32⟩ : BufTy).Contents (Elt F) → (⟨S1x1x1, .i32⟩ : BufTy).Contents (Elt F)),
    unary main_call4_v8 main_call4_v9 ((broadcastInDim S16x2048x1 ![0, 1, 2] bcast_S1x1x1_S16x2048x1_0_1_2) : (⟨S1x1x1, .i32⟩ : BufTy).Contents (Elt F) → (⟨S16x2048x1, .i32⟩ : BufTy).Contents (Elt F)),
    binary main_call4_v5 main_call4_v9 main_call4_v10 ((cmpi .sle) : (⟨S16x2048x1, .i32⟩ : BufTy).Contents (Elt F) → (⟨S16x2048x1, .i32⟩ : BufTy).Contents (Elt F) → (⟨S16x2048x1, .i1⟩ : BufTy).Contents (Elt F)),
    binary main_call4_v7 main_call4_v10 main_call4_v11 (andi : (⟨S16x2048x1, .i1⟩ : BufTy).Contents (Elt F) → (⟨S16x2048x1, .i1⟩ : BufTy).Contents (Elt F) → (⟨S16x2048x1, .i1⟩ : BufTy).Contents (Elt F)),
    nullary main_call4_c_3 (constantI S_ 1 1#1),
    binary main_call4_v11 main_call4_c_3 main_call4_v12 ((fun x v => Host.reduce IntOp.andi x v reducesTo_S16x2048x1_S16x2048_d2 h_S_) : (⟨S16x2048x1, .i1⟩ : BufTy).Contents (Elt F) → (⟨S_, .i1⟩ : BufTy).Contents (Elt F) → (⟨S16x2048, .i1⟩ : BufTy).Contents (Elt F)),
    binary main_v3 main_call4_v5 main_call4_v13 ((fun x i => Host.gather gather_S16x2048_S16x2048x1_S16x2048_n_1_0_0_1_2_11 x i) : (⟨S16x2048, .i32⟩ : BufTy).Contents (Elt F) → (⟨S16x2048x1, .i32⟩ : BufTy).Contents (Elt F) → (⟨S16x2048, .i32⟩ : BufTy).Contents (Elt F)),
    nullary main_call4_c_4 (constantI S_ 32 2147483648#32),
    unary main_call4_c_4 main_call4_v14 ((broadcastInDim S16x2048 ![] bcast_S_S16x2048) : (⟨S_, .i32⟩ : BufTy).Contents (Elt F) → (⟨S16x2048, .i32⟩ : BufTy).Contents (Elt F)),
    ternary main_call4_v12 main_call4_v13 main_call4_v14 main_v26 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)) ]

/-- The buffers these operations write. -/
abbrev wrG : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_c_4, main_call4_v14, main_v26]

/-- Operation by operation. -/
theorem writesG : (opsG (F := F)).map HloOp.writes = wrG.map fun w => {Proc.devRef (τ := τ) .tc w} := rfl

/-- They touch buffers of the TensorCore only. -/
theorem subG : (opsG (F := F)).Forall fun op => op.bufs ⊆ tcRefs τ sig := ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- @main's operations for the results. -/
abbrev opsH : List (HloOp τ sig (Elt F)) :=
  [ unary main_v22 main_v27 (broadcastInDim S16x1 ![0] bcast_S16_S16x1_0 : (⟨S16, .i32⟩ : BufTy).Contents (Elt F) → (⟨S16x1, .i32⟩ : BufTy).Contents (Elt F)),
    unary main_v14 main_v28 (broadcastInDim S16x2048 ![0, 1] bcast_S1x2048_S16x2048_0_1 : (⟨S1x2048, .i32⟩ : BufTy).Contents (Elt F) → (⟨S16x2048, .i32⟩ : BufTy).Contents (Elt F)),
    unary main_v27 main_v29 (broadcastInDim S16x2048 ![0, 1] bcast_S16x1_S16x2048_0_1 : (⟨S16x1, .i32⟩ : BufTy).Contents (Elt F) → (⟨S16x2048, .i32⟩ : BufTy).Contents (Elt F)),
    binary main_v28 main_v29 main_v30 (cmpi .slt : (⟨S16x2048, .i32⟩ : BufTy).Contents (Elt F) → (⟨S16x2048, .i32⟩ : BufTy).Contents (Elt F) → (⟨S16x2048, .i1⟩ : BufTy).Contents (Elt F)),
    ternary main_v30 main_v26 main_v3 main_v31 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)),
    nullary main_cst_2 (constant S_ .f32 0x00000000#32),
    binary main_v20 main_cst_2 main_v32 ((fun x v => Host.reduceAdd x v reducesTo_S16x2048_S16_d1 h_S_) : (⟨S16x2048, .f32⟩ : BufTy).Contents (Elt F) → (⟨S_, .f32⟩ : BufTy).Contents (Elt F) → (⟨S16, .f32⟩ : BufTy).Contents (Elt F)),
    unary main_v31 main_v33 ((transpose S2048x16 [1, 0] · transposes_S16x2048_S2048x16_1_0) : (⟨S16x2048, .i32⟩ : BufTy).Contents (Elt F) → (⟨S2048x16, .i32⟩ : BufTy).Contents (Elt F)) ]

/-- The buffers these operations write. -/
abbrev wrH : List (Ref sig .tc) := [main_v27, main_v28, main_v29, main_v30, main_v31, main_cst_2, main_v32, main_v33]

/-- Operation by operation. -/
theorem writesH : (opsH (F := F)).map HloOp.writes = wrH.map fun w => {Proc.devRef (τ := τ) .tc w} := rfl

/-- They touch buffers of the TensorCore only. -/
theorem subH : (opsH (F := F)).Forall fun op => op.bufs ⊆ tcRefs τ sig := ⟨unary_bufs_sub .., unary_bufs_sub .., unary_bufs_sub .., binary_bufs_sub .., ternary_bufs_sub .., nullary_bufs_sub .., binary_bufs_sub .., unary_bufs_sub ..⟩

/-- All of @main's operations, in order. -/
abbrev ops : List (HloOp τ sig (Elt F)) := opsA ++ (opsB ++ (opsC ++ (opsD ++ (opsE ++ (opsG ++ opsH)))))

set_option maxHeartbeats 4000000 in
/-- @main is that straight line. -/
theorem main_eq (c : Dev nD) : main (F := F) c = seq ops := by
  simp only [main, fn_log_softmax.body, fn_argmax.body, fn_where.body, fn_argsort.body, fn_take_along_axis.body, fn_where_0.body,
    joined, ops, opsA, opsB, opsC, opsD, opsE, opsG, opsH, seq, List.cons_append, List.nil_append, bind_assoc, pure_bind,
    main_call0, main_call1, main_call2, main_call3, main_call4, main_call5, TRef.nullary, TRef.unary, TRef.binary, TRef.ternary,
    TRef.quaternary, TRef.reshape, TRef.toBuf, TRef.ofBuf, cast_eq]
  try rfl

/-- Nothing is scoped on this signature. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

/-- Every operation touches buffers of the TensorCore only. -/
theorem ops_sub : (ops (F := F)).Forall fun op => op.bufs ⊆ tcRefs τ sig :=
  List.forall_iff_forall_mem.mpr fun op h => by
    simp only [ops, List.mem_append] at h
    rcases h with h | h | h | h | h | h | h
    · exact List.forall_iff_forall_mem.mp subA op h
    · exact List.forall_iff_forall_mem.mp subB op h
    · exact List.forall_iff_forall_mem.mp subC op h
    · exact List.forall_iff_forall_mem.mp subD op h
    · exact List.forall_iff_forall_mem.mp subE op h
    · exact List.forall_iff_forall_mem.mp subG op h
    · exact List.forall_iff_forall_mem.mp subH op h

/-- The buffers after the first piece, …, after all. -/
def VA (V : Valuation τ sig (Elt F)) : Valuation τ sig (Elt F) := after opsA V
@[inherit_doc VA] def VB (V : Valuation τ sig (Elt F)) : Valuation τ sig (Elt F) := after opsB (VA V)
@[inherit_doc VA] def VC (V : Valuation τ sig (Elt F)) : Valuation τ sig (Elt F) := after opsC (VB V)
@[inherit_doc VA] def VD (V : Valuation τ sig (Elt F)) : Valuation τ sig (Elt F) := after opsD (VC V)
@[inherit_doc VA] def VE (V : Valuation τ sig (Elt F)) : Valuation τ sig (Elt F) := after opsE (VD V)
@[inherit_doc VA] def VG (V : Valuation τ sig (Elt F)) : Valuation τ sig (Elt F) := after opsG (VE V)
@[inherit_doc VA] def VH (V : Valuation τ sig (Elt F)) : Valuation τ sig (Elt F) := after opsH (VG V)

/-- Two lines one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- The whole line is the seven pieces. -/
theorem after_ops (V : Valuation τ sig (Elt F)) : after ops V = VH V := by
  simp only [ops, after_two, VH, VG, VE, VD, VC, VB, VA]

/-- What a piece does not write it keeps. -/
theorem VA_keep (V : Valuation τ sig (Elt F)) (r : Ref sig .tc) (h : r ∉ wrA) : VA V (Proc.devRef .tc r) = V (Proc.devRef .tc r) := after_unwritten wrA writesA h _
@[inherit_doc VA_keep] theorem VB_keep (V : Valuation τ sig (Elt F)) (r : Ref sig .tc) (h : r ∉ wrB) : VB V (Proc.devRef .tc r) = VA V (Proc.devRef .tc r) := after_unwritten wrB writesB h _
@[inherit_doc VA_keep] theorem VC_keep (V : Valuation τ sig (Elt F)) (r : Ref sig .tc) (h : r ∉ wrC) : VC V (Proc.devRef .tc r) = VB V (Proc.devRef .tc r) := after_unwritten wrC writesC h _
@[inherit_doc VA_keep] theorem VD_keep (V : Valuation τ sig (Elt F)) (r : Ref sig .tc) (h : r ∉ wrD) : VD V (Proc.devRef .tc r) = VC V (Proc.devRef .tc r) := after_unwritten wrD writesD h _
@[inherit_doc VA_keep] theorem VE_keep (V : Valuation τ sig (Elt F)) (r : Ref sig .tc) (h : r ∉ wrE) : VE V (Proc.devRef .tc r) = VD V (Proc.devRef .tc r) := after_unwritten wrE writesE h _
@[inherit_doc VA_keep] theorem VG_keep (V : Valuation τ sig (Elt F)) (r : Ref sig .tc) (h : r ∉ wrG) : VG V (Proc.devRef .tc r) = VE V (Proc.devRef .tc r) := after_unwritten wrG writesG h _
@[inherit_doc VA_keep] theorem VH_keep (V : Valuation τ sig (Elt F)) (r : Ref sig .tc) (h : r ∉ wrH) : VH V (Proc.devRef .tc r) = VG V (Proc.devRef .tc r) := after_unwritten wrH writesH h _

/-- The arguments are kept throughout. -/
theorem VH_arg0 (V : Valuation τ sig (Elt F)) : VH V (Proc.devRef .tc main_arg0) = V (Proc.devRef .tc main_arg0) :=
  (VH_keep V _ (by decide)).trans <| (VG_keep V _ (by decide)).trans <| (VE_keep V _ (by decide)).trans <|
    (VD_keep V _ (by decide)).trans <| (VC_keep V _ (by decide)).trans <| (VB_keep V _ (by decide)).trans (VA_keep V _ (by decide))
@[inherit_doc VH_arg0] theorem VH_arg1 (V : Valuation τ sig (Elt F)) : VH V (Proc.devRef .tc main_arg1) = V (Proc.devRef .tc main_arg1) :=
  (VH_keep V _ (by decide)).trans <| (VG_keep V _ (by decide)).trans <| (VE_keep V _ (by decide)).trans <|
    (VD_keep V _ (by decide)).trans <| (VC_keep V _ (by decide)).trans <| (VB_keep V _ (by decide)).trans (VA_keep V _ (by decide))

/-- Every run of the reference ends, every buffer holding what the seven pieces leave and no counter raised. -/
theorem run_ref (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = VH (launchContents m d) (Proc.devRef .tc b)) ∧
        r.2.sem = fun _ => 0 :=
  (θ_run (defs (F := F)) _ _).mono (fun r h => ⟨fun d b => (h d b).trans (congrFun (after_ops _) _), sem_eq_zero_of_no_sems rfl r.2⟩)
    (run_seq scopedRefs_eq scopedSems_eq defs main (fun _ => ops) main_eq (fun _ => ops_sub) m ρ)

end Cert.Proof.Ref
-- ==== Proof.RefVal.lean ====
/- What the reference program leaves in its results, as functions of its arguments: the log-softmax transposed, each position's maximum
   and first maximal index, the mask of kept positions, the counts, the stable sort of the mask's complement, the gather, the padding. -/
module

public import proofs.«01_k».proof.Proof.Ref

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The functions -/

/-- The greatest entry along the labels. -/
def rowMax (x : FVec F S2048x16x1024 .f32) : FVec F S2048x16 .f32 :=
  maximumf (broadcastInDim S2048x16 ![] bcast_S_S2048x16 (constant S_ .f32 0xFF800000#32))
    (Host.reduce FloatOps.maximumf x (constant S_ .f32 0xFF800000#32) reducesTo_S2048x16x1024_S2048x16_d2 h_S_)

/-- The entries less their row's greatest. -/
def shifted (x : FVec F S2048x16x1024 .f32) : FVec F S2048x16x1024 .f32 :=
  subf x (broadcastInDim S2048x16x1024 ![0, 1, 2] bcast_S2048x16x1_S2048x16x1024_0_1_2
    (broadcastInDim S2048x16x1 ![0, 1] bcast_S2048x16_S2048x16x1_0_1 (rowMax x)))

/-- The logarithm of the sum of their exponentials. -/
def logSum (x : FVec F S2048x16x1024 .f32) : FVec F S2048x16x1 .f32 :=
  Host.log (broadcastInDim S2048x16x1 ![0, 1] bcast_S2048x16_S2048x16x1_0_1
    (Host.reduceAdd (Host.exp (shifted x)) (constant S_ .f32 0x00000000#32) reducesTo_S2048x16x1024_S2048x16_d2 h_S_))

/-- The log-softmax, transposed. -/
def lp (x : FVec F S2048x16x1024 .f32) : FVec F S16x2048x1024 .f32 :=
  transpose S16x2048x1024 [1, 0, 2]
    (subf (shifted x) (broadcastInDim S2048x16x1024 ![0, 1, 2] bcast_S2048x16x1_S2048x16x1024_0_1_2 (logSum x)))
    transposes_S2048x16x1024_S16x2048x1024_1_0_2

/-- The greatest log-probability of each position. -/
def best (p : FVec F S16x2048x1024 .f32) : FVec F S16x2048 .f32 :=
  Host.reduce FloatOps.maximumf p (constant S_ .f32 0xFF800000#32) reducesTo_S16x2048x1024_S16x2048_d2 h_S_

/-- The first label that has it. -/
def label (p : FVec F S16x2048x1024 .f32) : IVec S16x2048 32 := fun j =>
  (Host.argReduce reducer_argmax_f32_i32 p (iotaInDim S16x2048x1024 32 2) (constant S_ .f32 0xFF800000#32) (constantI S_ 32 0#32)
    reducesTo_S16x2048x1024_S16x2048_d2 h_S_ j).2

/-- The positions, one row. -/
def pos : IVec S1x2048 32 := broadcastInDim S1x2048 ![1] bcast_S2048_S1x2048_1 (iotaInDim S2048 32 0)

/-- Whether a position lies within its sequence. -/
def inLen (ln : IVec S16 32) : IVec S16x2048 1 :=
  cmpi .slt (broadcastInDim S16x2048 ![0, 1] bcast_S1x2048_S16x2048_0_1 pos)
    (broadcastInDim S16x2048 ![0, 1] bcast_S16x1_S16x2048_0_1 (broadcastInDim S16x1 ![0] bcast_S16_S16x1_0 ln))

/-- Whether a label is not the blank. -/
def nonBlank (a : IVec S16x2048 32) : IVec S16x2048 1 :=
  cmpi .ne a (broadcastInDim S16x2048 ![] bcast_S_S16x2048 (constantI S_ 32 0#32))

/-- Whether a position is kept. -/
def mask (a : IVec S16x2048 32) (ln : IVec S16 32) : IVec S16x2048 1 :=
  andi (joined (extractStridedSlice S16x1 ![0, 0] (nonBlank a) slices_S16x2048_S16x1_0_0)
    (andi (extractStridedSlice S16x2047 ![0, 1] (nonBlank a) slices_S16x2048_S16x2047_0_1)
      (cmpi .ne (extractStridedSlice S16x2047 ![0, 1] a slices_S16x2048_S16x2047_0_1)
        (extractStridedSlice S16x2047 ![0, 0] a slices_S16x2048_S16x2047_0_0)))) (inLen ln)

/-- The greatest log-probabilities, zero beyond the length. -/
def scores (b : FVec F S16x2048 .f32) (ln : IVec S16 32) : FVec F S16x2048 .f32 :=
  select (inLen ln) b (broadcastInDim S16x2048 ![] bcast_S_S16x2048 (constant S_ .f32 0x00000000#32))

/-- How many positions are kept. -/
def count (k : IVec S16x2048 1) : IVec S16 32 :=
  Host.reduce IntOp.addi (extui 32 k natLt_1_32) (constantI S_ 32 0#32) reducesTo_S16x2048_S16_d1 h_S_

/-- The positions in the stable order of the mask's complement. -/
def order (k : IVec S16x2048 1) : IVec S16x2048 32 :=
  (Host.sort2 S16x2048 1 comparator_i32_i32_d1 (extui 32 (noti k) natLt_1_32) (iotaInDim S16x2048 32 1)).2

/-- Indices, a negative one counted from the end. -/
def wrapped (o : IVec S16x2048 32) : IVec S16x2048x1 32 :=
  shapeCast S16x2048x1 (select (cmpi .slt o (broadcastInDim S16x2048 ![] bcast_S_S16x2048 (constantI S_ 32 0#32)))
    (addi o (broadcastInDim S16x2048 ![] bcast_S_S16x2048 (constantI S_ 32 2048#32))) o) shapeCasts_S16x2048_S16x2048x1

/-- Whether an index lies in the row. -/
def inRow (w : IVec S16x2048x1 32) : IVec S16x2048 1 :=
  Host.reduce IntOp.andi (andi (cmpi .sge w (broadcastInDim S16x2048x1 ![] bcast_S_S16x2048x1 (constantI S_ 32 0#32)))
    (cmpi .sle w (broadcastInDim S16x2048x1 ![0, 1, 2] bcast_S1x1x1_S16x2048x1_0_1_2
      (broadcastInDim S1x1x1 ![2] bcast_S1_S1x1x1_2 (constantI S1 32 2047#32)))))
    (constantI S_ 1 1#1) reducesTo_S16x2048x1_S16x2048_d2 h_S_

/-- The labels at those indices. -/
def taken (a : IVec S16x2048 32) (o : IVec S16x2048 32) : IVec S16x2048 32 :=
  select (inRow (wrapped o)) (Host.gather gather_S16x2048_S16x2048x1_S16x2048_n_1_0_0_1_2_11 a (wrapped o))
    (broadcastInDim S16x2048 ![] bcast_S_S16x2048 (constantI S_ 32 2147483648#32))

/-- The paths: the gathered labels up to the count, the row's own after it. -/
def paths (a tk : IVec S16x2048 32) (c : IVec S16 32) : IVec S2048x16 32 :=
  transpose S2048x16 [1, 0]
    (select (cmpi .slt (broadcastInDim S16x2048 ![0, 1] bcast_S1x2048_S16x2048_0_1 pos)
      (broadcastInDim S16x2048 ![0, 1] bcast_S16x1_S16x2048_0_1 (broadcastInDim S16x1 ![0] bcast_S16_S16x1_0 c))) tk a)
    transposes_S16x2048_S2048x16_1_0

/-- The sum of the scores. -/
def total (s : FVec F S16x2048 .f32) : FVec F S16 .f32 :=
  Host.reduceAdd s (constant S_ .f32 0x00000000#32) reducesTo_S16x2048_S16_d1 h_S_

/-! ## The pieces' reads -/

variable (V : Valuation τ sig (Elt F))

/-- The first argument. -/
abbrev X0 : FVec F S2048x16x1024 .f32 := V (Proc.devRef .tc main_arg0)
/-- The second. -/
abbrev L0 : IVec S16 32 := V (Proc.devRef .tc main_arg1)

/-- The log-softmax is left by the first piece; -/
theorem VA_v1 : VA V (Proc.devRef .tc main_v1) = lp (X0 V) := by
  unfold VA; after_results_simp
  simp only [lp, logSum, shifted, rowMax]

/-- the second leaves its greatest entries -/
theorem VB_v2 : VB V (Proc.devRef .tc main_v2) = best (lp (X0 V)) := by
  rw [← VA_v1]; unfold VB; after_results_simp; rfl

/-- and the first labels that have them, -/
theorem VB_v3 : VB V (Proc.devRef .tc main_v3) = label (lp (X0 V)) := by
  rw [← VA_v1]; unfold VB; after_results_simp; rfl

/-- and keeps the lengths. -/
theorem VB_arg1 : VB V (Proc.devRef .tc main_arg1) = L0 V :=
  (VB_keep V _ (by decide)).trans (VA_keep V _ (by decide))

/-- The third leaves the positions, -/
theorem VC_v14 : VC V (Proc.devRef .tc main_v14) = pos := by
  unfold VC; after_results_simp; rfl

/-- which of them lie within the length -/
theorem VC_v18 : VC V (Proc.devRef .tc main_v18) = inLen (L0 V) := by
  rw [← VB_arg1]; unfold VC; after_results_simp; rfl

/-- and which are kept; -/
theorem VC_v19 : VC V (Proc.devRef .tc main_v19) = mask (label (lp (X0 V))) (L0 V) := by
  rw [← VB_arg1, ← VB_v3]; unfold VC; after_results_simp; rfl

/-- The mask the program computes. -/
abbrev K0 : IVec S16x2048 1 := mask (label (lp (X0 V))) (L0 V)

/-- it keeps the greatest entries -/
theorem VC_v2 : VC V (Proc.devRef .tc main_v2) = best (lp (X0 V)) := (VC_keep V _ (by decide)).trans (VB_v2 V)
/-- and the labels. -/
theorem VC_v3 : VC V (Proc.devRef .tc main_v3) = label (lp (X0 V)) := (VC_keep V _ (by decide)).trans (VB_v3 V)

/-- The fourth leaves the scores, -/
theorem VD_v20 : VD V (Proc.devRef .tc main_v20) = scores (best (lp (X0 V))) (L0 V) := by
  unfold scores
  rw [← VC_v2, ← VC_v18]; unfold VD; after_results_simp; rfl

/-- the count -/
theorem VD_v22 : VD V (Proc.devRef .tc main_v22) = count (K0 V) := by
  unfold K0
  rw [← VC_v19]; unfold VD; after_results_simp; rfl

/-- and the sort's keys. -/
theorem VD_v24 : VD V (Proc.devRef .tc main_v24) = extui 32 (noti (K0 V)) natLt_1_32 := by
  unfold K0
  rw [← VC_v19]; unfold VD; after_results_simp

/-- The fifth leaves the order -/
theorem VE_v25 : VE V (Proc.devRef .tc main_v25) = order (K0 V) := by
  unfold order
  rw [← VD_v24]; unfold VE; after_results_simp

/-- and keeps the labels. -/
theorem VE_v3 : VE V (Proc.devRef .tc main_v3) = label (lp (X0 V)) :=
  (VE_keep V _ (by decide)).trans ((VD_keep V _ (by decide)).trans (VC_v3 V))

/-- The sixth leaves the labels taken in that order; -/
theorem VG_v26 : VG V (Proc.devRef .tc main_v26) = taken (label (lp (X0 V))) (order (K0 V)) := by
  rw [← VE_v3, ← VE_v25]; unfold VG; after_results_simp; rfl

/-- it keeps the labels, -/
theorem VG_v3 : VG V (Proc.devRef .tc main_v3) = label (lp (X0 V)) := (VG_keep V _ (by decide)).trans (VE_v3 V)

/-- the positions, -/
theorem VG_v14 : VG V (Proc.devRef .tc main_v14) = pos :=
  (VG_keep V _ (by decide)).trans ((VE_keep V _ (by decide)).trans ((VD_keep V _ (by decide)).trans (VC_v14 V)))

/-- the scores -/
theorem VG_v20 : VG V (Proc.devRef .tc main_v20) = scores (best (lp (X0 V))) (L0 V) :=
  (VG_keep V _ (by decide)).trans ((VE_keep V _ (by decide)).trans (VD_v20 V))

/-- and the count. -/
theorem VG_v22 : VG V (Proc.devRef .tc main_v22) = count (K0 V) :=
  (VG_keep V _ (by decide)).trans ((VE_keep V _ (by decide)).trans (VD_v22 V))

/-- The first result: the sum of the scores; -/
theorem VH_v32 : VH V (Proc.devRef .tc main_v32) = total (scores (best (lp (X0 V))) (L0 V)) := by
  rw [← VG_v20]; unfold VH; after_results_simp; rfl

/-- the second: the paths; -/
theorem VH_v33 : VH V (Proc.devRef .tc main_v33)
    = paths (label (lp (X0 V))) (taken (label (lp (X0 V))) (order (K0 V))) (count (K0 V)) := by
  unfold paths
  rw [← VG_v22, ← VG_v26, ← VG_v3, ← VG_v14 (F := F) V]; unfold VH; after_results_simp

/-- the third: the counts. -/
theorem VH_v22 : VH V (Proc.devRef .tc main_v22) = count (K0 V) := (VH_keep V _ (by decide)).trans (VG_v22 V)

end Cert.Proof.Ref
-- ==== Proof.KerVal.lean ====
/- The kernel's results after the run, as functions of its arguments. -/
module

public import proofs.«01_k».proof.Proof.Whole

@[expose] public section

set_option maxRecDepth 16384

noncomputable section

namespace Cert.Proof.Run

open Cert.KernelIdeal Cert.KernelIdeal.Gen
open Idealize.ShloMosaic Idealize.ShloMosaic.TcCoe Idealize.SL.Sem
open Cert.Proof.Compact

variable {F : FTy → Type} [FloatOps F]
variable (m : (ℓ : Loc nD τ sig) → Buf (Elt F) ℓ)

/-- The first argument of a device, -/
abbrev argX (d : Dev nD) : S2048x16x1024.Idx → F .f32 := V0 m d (dr main_arg0)
/-- and the second. -/
abbrev argL (d : Dev nD) : S16.Idx → BitVec 32 := V0 m d (dr main_arg1)
/-- The lengths as the dense call reads them. -/
abbrev lenRow (d : Dev nD) : S1x16.Idx → BitVec 32 := shapeCast S1x16 (argL m d) shapeCasts_S16_S1x16

/-- After the dense call its second result holds the partial sums, -/
theorem V2_parts (d : Dev nD) : V2 m d (dr main_v1_1) = partsOf (argX m d) (lenRow m d) :=
  (denseOut_3 (V1 m d)).trans (congr (congrArg partsOf (V1_ne m d (b := main_arg0) (by decide)))
    (StableHlo.reshape_result main_arg1 main_v0 rfl shapeCasts_S16_S1x16 _ _ (V0 m d)))
/-- after the SparseCore call its first result holds the compacted rows, -/
theorem V3_paths (d : Dev nD) : V3 m d (dr main_v2_0) = pathsOf (amax m d) (argL m d) :=
  (callOut_p (V2 m d)).trans (congr (congrArg pathsOf (V2_a m d)) (V2_ne m d (b := main_arg1) (by decide) (by decide) (by decide)))
/-- its second the counts, -/
theorem V3_lens (d : Dev nD) : V3 m d (dr main_v2_1) = lensOf (amax m d) (argL m d) :=
  (callOut_o (V2 m d)).trans (congr (congrArg lensOf (V2_a m d)) (V2_ne m d (b := main_arg1) (by decide) (by decide) (by decide)))
/-- and the partial sums are still there. -/
theorem V3_parts (d : Dev nD) : V3 m d (dr main_v1_1) = partsOf (argX m d) (lenRow m d) :=
  (callOut_ne (V2 m d) (b := main_v1_1) (by decide) (by decide)).trans (V2_parts m d)

/-- The last reshape changes only its result, -/
theorem V6_ne (d : Dev nD) {b : Ref sig .tc} (h : b ≠ main_v5) : V6 m d (dr b) = V5 m d (dr b) :=
  StableHlo.reshape_result_ne main_v3_1 main_v5 rfl shapeCasts_S1x16_S16 _ _ _ h
/-- and so does the one before it. -/
theorem V5_ne (d : Dev nD) {b : Ref sig .tc} (h : b ≠ main_v4) : V5 m d (dr b) = V4 m d (dr b) :=
  StableHlo.reshape_result_ne main_v3_2 main_v4 rfl shapeCasts_S1x16_S16 _ _ _ h

/-- The paths: the compacted rows, transposed. -/
theorem V6_paths (d : Dev nD) : V6 m d (dr main_v3_0) = k2_pay1 (F := F) (pathsOf (amax m d) (argL m d)) :=
  (V6_ne m d (b := main_v3_0) (by decide)).trans ((V5_ne m d (b := main_v3_0) (by decide)).trans
    ((finishOut_3 (V3 m d)).trans (congrArg (k2_pay1 (F := F)) (V3_paths m d))))
/-- The lengths. -/
theorem V6_lens (d : Dev nD) : V6 m d (dr main_v5) = shapeCast S16 (k2_pay2 (F := F) (lensOf (amax m d) (argL m d))) shapeCasts_S1x16_S16 :=
  (StableHlo.reshape_result main_v3_1 main_v5 rfl shapeCasts_S1x16_S16 _ _ (V5 m d)).trans
    (congrArg (fun x : S1x16.Idx → BitVec 32 => shapeCast S16 x shapeCasts_S1x16_S16)
      ((V5_ne m d (b := main_v3_1) (by decide)).trans ((finishOut_4 (V3 m d)).trans (congrArg (k2_pay2 (F := F)) (V3_lens m d)))))
/-- The sums of the greatest log-probabilities. -/
theorem V6_sums (d : Dev nD) : V6 m d (dr main_v4) = shapeCast S16 (k2_pay3 (F := F) (partsOf (argX m d) (lenRow m d))) shapeCasts_S1x16_S16 :=
  (V6_ne m d (b := main_v4) (by decide)).trans
    ((StableHlo.reshape_result main_v3_2 main_v4 rfl shapeCasts_S1x16_S16 _ _ (V4 m d)).trans
      (congrArg (fun x : S1x16.Idx → F .f32 => shapeCast S16 x shapeCasts_S1x16_S16)
        ((finishOut_5 (V3 m d)).trans (congrArg (k2_pay3 (F := F)) (V3_parts m d)))))

end Cert.Proof.Run
-- ==== Proof.PreFin.lean ====
/- The precondition: every logit is a real number. -/
module

public import proofs.«01_k».proof.Pre_finite_logits
public import Idealize.ShloMosaic.Lib.Pointwise
public import Idealize.ShloMosaic.Lib.ReduceAll

@[expose] public section

set_option maxRecDepth 16384

noncomputable section

namespace Cert.Proof.Val

open Idealize.ShloMosaic
open Cert.Pre_finite_logits

/-- The shape relations the precondition states. -/
theorem preFacts : Cert.Pre_finite_logits.Facts where
  bcast_S_S2048x16x1024 := by decide
  reducesTo_S2048x16x1024_S_d0_1_2 := by decide
  h_S_ := by decide

/-- Infinity's pattern. -/
theorem posInf : Ideal.ofBits .f32 0x7F800000#32 = ⊤ := by simp [Ideal.ofBits, Ideal.ieee]

/-- A number whose absolute value is below infinity is real. -/
theorem real_of_abs_lt (v : EReal) (h : max v (-v) < ⊤) : ∃ r : ℝ, v = ((r : ℝ) : EReal) := by
  induction v using EReal.rec with
  | bot => simp at h
  | coe r => exact ⟨r, rfl⟩
  | top => simp at h

/-- Where the precondition is one, every logit is real. -/
theorem real_of_pre (X : FVec Ideal S2048x16x1024 .f32) (L : IVec S16 32)
    (h : @fn preFacts Ideal _ X L = fun _ => 1#1) (j : S2048x16x1024.Idx) : ∃ r : ℝ, X j = ((r : ℝ) : EReal) := by
  haveI : Subsingleton S_.Idx := ⟨fun a b => funext fun x => x.elim0⟩
  have h1 := Host.reduce_andi_all _ _ _ _ (fun x => x.elim0) (congrFun h fun x => x.elim0) j
  have h2 : Ideal.cmp .olt (max (X j) (-X j)) (Ideal.ofBits .f32 0x7F800000#32) = 1#1 := h1
  rw [posInf] at h2
  refine real_of_abs_lt _ ?_
  generalize max (X j) (-X j) = v at h2 ⊢
  by_contra hn
  rw [show Ideal.cmp .olt v ⊤ = BitVec.ofBool (decide (v < ⊤)) from rfl, decide_eq_false hn] at h2
  exact absurd h2 (by decide)

end Cert.Proof.Val
-- ==== Proof.RefAt.lean ====
/- The reference's values read at an index, over the extended reals. -/
module

public import proofs.«01_k».proof.Proof.RefVal
public import Idealize.ShloMosaic.Lib.Pointwise

@[expose] public section

set_option maxRecDepth 16384

noncomputable section

namespace Cert.Proof.Val

open Idealize.ShloMosaic
open Cert.Proof

open Cert.ReferenceIdeal Cert.ReferenceIdeal.Gen

/-- Minus infinity's pattern. -/
theorem negInf : Ideal.ofBits .f32 0xFF800000#32 = ⊥ := by simp [Ideal.ofBits, Ideal.ieee]

/-- The fold along the labels. -/
theorem foldMax_at (x : FVec Ideal S2048x16x1024 .f32) (t : Fin 2048) (w : Fin 16) :
    Host.reduce (FloatOps.maximumf (F := Ideal)) x (constant (F := Ideal) S_ .f32 0xFF800000#32) reducesTo_S2048x16x1024_S2048x16_d2 h_S_ (ix2 t w)
      = (Finset.univ : Finset (Fin 1024)).fold max (Ideal.ofBits .f32 0xFF800000#32) fun k => x (ix3 t w k) := by
  pointwise

/-- A maximum with minus infinity. -/
theorem floor_at (r : FVec Ideal S2048x16 .f32) (j : S2048x16.Idx) :
    maximumf (F := Ideal) (broadcastInDim S2048x16 ![] bcast_S_S2048x16 (constant (F := Ideal) S_ .f32 0xFF800000#32)) r j
      = max (Ideal.ofBits .f32 0xFF800000#32) (r j) := by
  rw [maximumf_apply, broadcastInDim_apply (k := fun a => a.elim0) (hk := fun a => a.elim0), constant_apply]
  simp only [Ideal.maximumf_def, Ideal.ofBits_def]

/-- The greatest entry along the labels, as a fold. -/
theorem rowMax_at (x : FVec Ideal S2048x16x1024 .f32) (t : Fin 2048) (w : Fin 16) :
    Ref.rowMax (F := Ideal) x (ix2 t w)
      = (Finset.univ : Finset (Fin 1024)).fold max (Ideal.ofBits .f32 0xFF800000#32) fun k => x (ix3 t w k) := by
  unfold Ref.rowMax
  rw [floor_at, foldMax_at, negInf]
  exact bot_sup_eq _

/-- The log-softmax. -/
theorem lp_at (x : FVec Ideal S2048x16x1024 .f32) (t : Fin 2048) (w : Fin 16) (v : Fin 1024) :
    Ref.lp (F := Ideal) x (ix3 w t v) = x (ix3 t w v) - Ref.rowMax (F := Ideal) x (ix2 t w)
      - Ideal.log (∑ k : Fin 1024, Ideal.exp (x (ix3 t w k) - Ref.rowMax (F := Ideal) x (ix2 t w))) := by
  unfold Ref.lp Ref.logSum Ref.shifted
  pointwise

/-- The greatest log-probability. -/
theorem best_at (p : FVec Ideal S16x2048x1024 .f32) (w : Fin 16) (t : Fin 2048) :
    Ref.best (F := Ideal) p (ix2 w t)
      = (Finset.univ : Finset (Fin 1024)).fold max (Ideal.ofBits .f32 0xFF800000#32) fun k => p (ix3 w t k) := by
  unfold Ref.best
  pointwise

/-- The sum of the scores. -/
theorem total_at (p : FVec Ideal S16x2048 .f32) (w : Fin 16) : Ref.total (F := Ideal) p (ix1 w) = ∑ t : Fin 2048, p (ix2 w t) := by
  unfold Ref.total
  pointwise

/-- The count of the kept positions. -/
theorem count_at (k : IVec S16x2048 1) (w : Fin 16) : Ref.count k (ix1 w)
    = (Finset.univ : Finset (Fin 2048)).fold IntOp.addi 0#32 fun t => BitVec.setWidth 32 (k (ix2 w t)) := by
  unfold Ref.count
  pointwise

/-- The paths. -/
theorem paths_at (a tk : IVec S16x2048 32) (c : IVec S16 32) (t : Fin 2048) (w : Fin 16) : Ref.paths a tk c (ix2 t w)
    = Scalar.select (IntOp.cmpi .slt (BitVec.ofNat 32 t.val) (c (ix1 w))) (tk (ix2 w t)) (a (ix2 w t)) := by
  unfold Ref.paths Ref.pos
  pointwise

/-- The scores. -/
theorem scores_at (b : FVec Ideal S16x2048 .f32) (ln : IVec S16 32) (t : Fin 2048) (w : Fin 16) :
    Ref.scores (F := Ideal) b ln (ix2 w t)
      = Scalar.select (IntOp.cmpi .slt (BitVec.ofNat 32 t.val) (ln (ix1 w))) (b (ix2 w t)) 0 := by
  unfold Ref.scores Ref.inLen Ref.pos
  pointwise

end Cert.Proof.Val
-- ==== Proof.KerAt.lean ====
/- The dense call's payloads read at an index, over the extended reals. -/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.Proof.Val

open Idealize.ShloMosaic
open Cert.KernelIdeal Cert.KernelIdeal.Gen

/-- The row maximum, as a fold. -/
theorem pay1_at (x : FVec Ideal S256x16x1024 .f32) (t : Fin 256) (w : Fin 16) : k0_pay1 (F := Ideal) x (ix2 t w)
    = (Finset.univ : Finset (Fin 1024)).fold max (Ideal.ofBits .f32 0xFF800000#32) fun k => x (ix3 t w k) := by
  unfold k0_pay1
  pointwise

/-- The first maximal label, as a fold. -/
theorem pay2_at (x : FVec Ideal S256x16x1024 .f32) (t : Fin 256) (w : Fin 16) : k0_pay2 (F := Ideal) x (ix2 w t)
    = (Finset.univ : Finset (Fin 1024)).fold IntOp.minsi 2147483647#32
        fun k => if x (ix3 t w k) = k0_pay1 (F := Ideal) x (ix2 t w) then BitVec.ofNat 32 k.val else 1024#32 := by
  unfold k0_pay2
  pointwise

/-- The sum of the exponentials along the labels. -/
def sumExp (x : FVec Ideal S256x16x1024 .f32) : FVec Ideal S256x16 .f32 :=
  multiReduction (F := Ideal) .add [2] S256x16 (exp (F := Ideal) x) 0x00000000#32 reduces_S256x16x1024_S256x16 (.inl rfl) rfl

/-- That sum at a place. -/
theorem sumExp_at (x : FVec Ideal S256x16x1024 .f32) (t : Fin 256) (w : Fin 16) :
    sumExp x (ix2 t w) = ∑ k : Fin 1024, Ideal.exp (x (ix3 t w k)) := by
  unfold sumExp
  pointwise

/-- Whether a position of the block lies within its sequence. -/
def inBlk (i : BitVec 32) (ln : IVec S1x16 32) : IVec S256x16 1 :=
  cmpi .slt (broadcastTo S256x16 (addi (broadcast S256x1 i) (iota .tc S256x1 32 [0] iota_S256x1_d0_w32)) broadcasts_S256x1_S256x16)
    (broadcastTo S256x16 (shapeCast S1x16 ln shapeCasts_S1x16_S1x16) broadcasts_S1x16_S256x16)

/-- That comparison at a place: the block's offset plus the position, against the length. -/
theorem inBlk_at (i : BitVec 32) (ln : IVec S1x16 32) (t : Fin 256) (w : Fin 16) :
    inBlk i ln (ix2 t w) = IntOp.cmpi .slt (IntOp.addi i (BitVec.ofNat 32 t.val)) (ln (ix2 0 w)) := by
  unfold inBlk
  pointwise

/-- The sum along the block's positions. -/
def colSum (d : FVec Ideal S256x16 .f32) : FVec Ideal S1x1x16 .f32 :=
  shapeCast S1x1x16 (multiReduction (F := Ideal) .add [0] S16 d 0x00000000#32 reduces_S256x16_S16 (.inl rfl) rfl) shapeCasts_S16_S1x1x16

/-- That sum at a column. -/
theorem colSum_at (d : FVec Ideal S256x16 .f32) (w : Fin 16) : colSum d (ix3 0 0 w) = ∑ t : Fin 256, d (ix2 t w) := by
  unfold colSum
  pointwise

/-- The masked block sum, in its pieces. -/
theorem pay3_eq (i : grid0.Coords) (x : FVec Ideal S256x16x1024 .f32) (ln : IVec S1x16 32) : k0_pay3 (F := Ideal) i x ln
    = colSum (select (inBlk (Scalar.muli (BitVec.ofNat 32 (i 0).val) 256#32) ln)
        (subf (F := Ideal) (k0_pay1 (F := Ideal) x) (log (F := Ideal) (sumExp x)))
        (broadcast S256x16 (Scalar.ofBits (F := Ideal) .f32 0x00000000#32))) := rfl

end Cert.Proof.Val
-- ==== Proof.Argmax.lean ====
/- The first maximal index: what a fold over (value, index) pairs keeps, and what the least matching index is. -/
module

public import proofs.«01_k».proof.Proof.RefAt
public import proofs.«01_k».proof.Proof.KerAt

@[expose] public section

set_option maxRecDepth 16384

noncomputable section

namespace Cert.Proof.Val

open Idealize.ShloMosaic

/-- `b` is the word of the first index at which `f` is greatest. -/
def IsFirst (f : Fin 1024 → EReal) (b : BitVec 32) : Prop :=
  ∃ k : Fin 1024, b = BitVec.ofNat 32 k.val ∧ (∀ k', f k' ≤ f k) ∧ ∀ k', f k' = f k → k ≤ k'

/-- There is only one first greatest label. -/
theorem IsFirst.unique {f : Fin 1024 → EReal} {b c : BitVec 32} (hb : IsFirst f b) (hc : IsFirst f c) : b = c := by
  obtain ⟨k, rfl, h1, h2⟩ := hb
  obtain ⟨l, rfl, h3, h4⟩ := hc
  have e : f k = f l := le_antisymm (h3 k) (h1 l)
  rw [le_antisymm (h2 l e.symm) (h4 k e)]

/-- An order-preserving change of the entries keeps the first maximal index. -/
theorem IsFirst.of_le_iff {f g : Fin 1024 → EReal} {b : BitVec 32} (h : ∀ i j, f i ≤ f j ↔ g i ≤ g j) (hb : IsFirst g b) : IsFirst f b := by
  obtain ⟨k, rfl, h1, h2⟩ := hb
  exact ⟨k, rfl, fun k' => (h k' k).mpr (h1 k'), fun k' e => h2 k' (le_antisymm ((h k' k).mp e.le) ((h k k').mp e.ge))⟩

/-- A label's word, signed, is the label. -/
theorem toInt_index (k : Fin 1024) : (BitVec.ofNat 32 k.val).toInt = k.val := by
  rw [BitVec.toInt_ofNat']
  have := k.isLt
  norm_num [Int.bmod]
  omega

/-- The greatest entry is one of them. -/
theorem exists_eq_foldMax (f : Fin 1024 → EReal) :
    (∃ k, f k = (Finset.univ : Finset (Fin 1024)).fold max ⊥ f) ∧ ∀ k, f k ≤ (Finset.univ : Finset (Fin 1024)).fold max ⊥ f := by
  have e : (Finset.univ : Finset (Fin 1024)).fold max ⊥ f = Finset.univ.sup f := rfl
  rw [e]
  obtain ⟨k, -, hk⟩ := Finset.exists_mem_eq_sup Finset.univ ⟨(0 : Fin 1024), Finset.mem_univ _⟩ f
  exact ⟨⟨k, hk.symm⟩, fun k => Finset.le_sup (Finset.mem_univ k)⟩

/-! ## The least matching index -/

/-- The signed minimum of words is the minimum of their values, -/
theorem minsi_toInt (x y : BitVec 32) : (IntOp.minsi x y).toInt = min x.toInt y.toInt := by
  unfold IntOp.minsi
  by_cases h : x.slt y = true
  · rw [if_pos h]; have := BitVec.slt_iff_toInt_lt.mp h; omega
  · rw [if_neg h]
    have : ¬ x.toInt < y.toInt := fun h' => h (BitVec.slt_iff_toInt_lt.mpr h')
    omega

/-- and so is a fold of it. -/
theorem fold_minsi_toInt {ι : Type} (S : Finset ι) (b : BitVec 32) (g : ι → BitVec 32) :
    (S.fold IntOp.minsi b g).toInt = S.fold min b.toInt fun k => (g k).toInt :=
  (Finset.fold_hom (op := IntOp.minsi) (op' := min) (m := BitVec.toInt) fun x y => (minsi_toInt x y)).symm

/-- The least index at which an entry is the greatest, `1024` at the others. -/
theorem isFirst_fold_minsi (f : Fin 1024 → EReal) (m : EReal) (hm : (∃ k, f k = m) ∧ ∀ k, f k ≤ m) :
    IsFirst f ((Finset.univ : Finset (Fin 1024)).fold IntOp.minsi 2147483647#32 fun k => if f k = m then BitVec.ofNat 32 k.val else 1024#32) := by
  classical
  have hex : ∃ n, ∃ h : n < 1024, f ⟨n, h⟩ = m := by obtain ⟨k, hk⟩ := hm.1; exact ⟨k.val, k.isLt, hk⟩
  obtain ⟨hlt, hf⟩ := Nat.find_spec hex
  let k : Fin 1024 := ⟨Nat.find hex, hlt⟩
  have hmin : ∀ k', f k' = m → k ≤ k' := fun k' e => Nat.find_min' hex ⟨k'.isLt, e⟩
  refine ⟨k, ?_, fun k' => hf ▸ hm.2 k', fun k' e => hmin k' (e.trans hf)⟩
  apply BitVec.eq_of_toInt_eq
  rw [fold_minsi_toInt, toInt_index]
  have hg : ∀ k' : Fin 1024, (k.val : ℤ) ≤ (if f k' = m then BitVec.ofNat 32 k'.val else 1024#32).toInt := by
    intro k'
    by_cases e : f k' = m
    · rw [if_pos e, toInt_index]; exact_mod_cast hmin k' e
    · rw [if_neg e]; have := k.isLt; have : (1024#32).toInt = 1024 := by decide
      omega
  apply le_antisymm
  · refine (Finset.fold_min_le _).mpr (Or.inr ⟨k, Finset.mem_univ _, ?_⟩)
    rw [if_pos hf, toInt_index]
  · refine (Finset.le_fold_min _).mpr ⟨?_, fun k' _ => hg k'⟩
    have := k.isLt; have : (2147483647#32).toInt = 2147483647 := by decide
    omega

/-- The kernel's label is the first maximal one. -/
theorem pay2_first (x : FVec Ideal Cert.KernelIdeal.S256x16x1024 .f32) (t : Fin 256) (w : Fin 16) :
    IsFirst (fun k => x (ix3 t w k)) (Cert.KernelIdeal.Gen.k0_pay2 (F := Ideal) x (ix2 w t)) := by
  rw [pay2_at]
  refine isFirst_fold_minsi _ _ ?_
  rw [pay1_at, negInf]
  exact exists_eq_foldMax _

/-! ## The fold of pairs -/

open Cert.ReferenceIdeal

/-- One pair comes before another: a greater value, or the same at an index no greater. -/
def Dom (p q : Ideal .f32 × BitVec 32) : Prop := q.1 < p.1 ∨ (q.1 = p.1 ∧ p.2.toInt ≤ q.2.toInt)

/-- A pair dominates itself. -/
theorem Dom.refl (p : Ideal .f32 × BitVec 32) : Dom p p := Or.inr ⟨rfl, le_refl _⟩

/-- Domination is transitive. -/
theorem Dom.trans {p q r : Ideal .f32 × BitVec 32} (h : Dom p q) (h' : Dom q r) : Dom p r := by
  rcases h with h | ⟨h, h2⟩ <;> rcases h' with h' | ⟨h', h2'⟩
  · exact Or.inl (lt_trans h' h)
  · exact Or.inl (h' ▸ h)
  · exact Or.inl (h ▸ h')
  · exact Or.inr ⟨h'.trans h, h2.trans h2'⟩

/-- The reducer returns one of its two pairs, and that pair dominates both. -/
theorem reducer_spec (p q : Ideal .f32 × BitVec 32) :
    (reducer_argmax_f32_i32 (F := Ideal) p q = p ∨ reducer_argmax_f32_i32 (F := Ideal) p q = q)
      ∧ Dom (reducer_argmax_f32_i32 (F := Ideal) p q) p ∧ Dom (reducer_argmax_f32_i32 (F := Ideal) p q) q := by
  obtain ⟨a, i⟩ := p
  obtain ⟨b, j⟩ := q
  have hr : reducer_argmax_f32_i32 (F := Ideal) (a, i) (b, j)
      = if b < a then (a, i) else if a = b ∧ i.slt j = true then (b, i) else (b, j) := by
    unfold reducer_argmax_f32_i32
    simp only [Ideal.cmpf_def, Ideal.cmp, IntOp.ori, IntOp.andi, IntOp.cmpi, Scalar.select]
    by_cases h1 : b < a <;> by_cases h2 : a = b <;> by_cases h3 : i.slt j = true <;> simp [h1, h2, h3]
  rw [hr]
  by_cases h1 : b < a
  · rw [if_pos h1]; exact ⟨Or.inl rfl, Dom.refl _, Or.inl h1⟩
  · rw [if_neg h1]
    by_cases h2 : a = b ∧ i.slt j = true
    · rw [if_pos h2]
      obtain ⟨rfl, h3⟩ := h2
      exact ⟨Or.inl rfl, Dom.refl _, Or.inr ⟨rfl, (BitVec.slt_iff_toInt_lt.mp h3).le⟩⟩
    · rw [if_neg h2]
      refine ⟨Or.inr rfl, ?_, Dom.refl _⟩
      rcases lt_or_eq_of_le (not_lt.mp h1) with h | h
      · exact Or.inl h
      · refine Or.inr ⟨h, ?_⟩
        by_contra h3
        exact h2 ⟨h, BitVec.slt_iff_toInt_lt.mpr (not_le.mp h3)⟩

/-- A fold of the reducer returns one of the pairs, and it dominates them all. -/
theorem foldl_reducer (L : List (Ideal .f32 × BitVec 32)) (p : Ideal .f32 × BitVec 32) :
    L.foldl (reducer_argmax_f32_i32 (F := Ideal)) p ∈ p :: L ∧ ∀ q ∈ p :: L, Dom (L.foldl (reducer_argmax_f32_i32 (F := Ideal)) p) q := by
  induction L generalizing p with
  | nil => exact ⟨by simp, fun q hq => by simp only [List.mem_singleton] at hq; subst hq; exact Dom.refl _⟩
  | cons q L ih =>
    obtain ⟨hm, hd⟩ := ih (reducer_argmax_f32_i32 (F := Ideal) p q)
    obtain ⟨h1, h2, h3⟩ := reducer_spec p q
    rw [List.foldl_cons]
    refine ⟨?_, fun r hr => ?_⟩
    · rcases List.mem_cons.mp hm with h | h
      · rw [h]; rcases h1 with h1 | h1 <;> rw [h1] <;> simp
      · simp [h]
    · rcases List.mem_cons.mp hr with rfl | hr
      · exact (hd _ (by simp)).trans h2
      · rcases List.mem_cons.mp hr with rfl | hr
        · exact (hd _ (by simp)).trans h3
        · exact hd _ (by simp [hr])

end Cert.Proof.Val
-- ==== Proof.Label.lean ====
/- The reference's label is the first maximal one. -/
module

public import proofs.«01_k».proof.Proof.Argmax

@[expose] public section

set_option maxRecDepth 16384

noncomputable section

namespace Cert.Proof.Val

open Idealize.ShloMosaic
open Cert.ReferenceIdeal Cert.ReferenceIdeal.Gen
open Cert.Proof

/-- The pairs a fold along one axis ranges over. -/
theorem mem_argReduceFiber {s t : Shape} {a : Fin s.rank} {α β : Type} (x : s.Idx → α) (y : s.Idx → β) (h' : s.ReducesTo [a] t)
    (h : s.Reduces [a] t) (j : t.Idx) (q : α × β) :
    q ∈ Host.argReduceFiber x y h' j ↔ ∃ k : Fin (s.size a), q = (x (h.lift j k), y (h.lift j k)) := by
  classical
  unfold Host.argReduceFiber
  rw [Shape.ReducesTo.drop_eq_drop h' h]
  have hi : ∀ i : s.Idx, h.drop i = j ↔ ∃ k : Fin (s.size a), h.lift j k = i := by
    intro i
    have := Finset.ext_iff.mp (h.filter_drop_eq_image_lift j) i
    simpa only [Finset.mem_filter, Finset.mem_univ, true_and, Finset.mem_image] using this
  constructor
  · intro hq
    obtain ⟨n, hn, rfl⟩ := List.mem_map.mp hq
    obtain ⟨k, hk⟩ := (hi _).mp (of_decide_eq_true (List.mem_filter.mp hn).2)
    exact ⟨k, by rw [hk]⟩
  · rintro ⟨k, rfl⟩
    refine List.mem_map.mpr ⟨s.rowMajor (h.lift j k), List.mem_filter.mpr ⟨List.mem_finRange _, ?_⟩, ?_⟩
    · rw [Equiv.symm_apply_apply]; exact decide_eq_true ((hi _).mpr ⟨k, rfl⟩)
    · rw [Equiv.symm_apply_apply]

/-- The fold of the pairs of a row and its indices, from minus infinity, ends at the first maximal index of a row without one. -/
theorem first_of_foldl (f : Fin 1024 → EReal) (L : List (Ideal .f32 × BitVec 32)) (e : Ideal .f32) {i : BitVec 32} (he : e = ⊥)
    (hL : ∀ q, q ∈ L ↔ ∃ k : Fin 1024, q = (f k, BitVec.ofNat 32 k.val)) (hf : ∀ k, f k ≠ ⊥) :
    IsFirst f (L.foldl (reducer_argmax_f32_i32 (F := Ideal)) (e, i)).2 := by
  obtain ⟨hm, hd⟩ := foldl_reducer L (e, i)
  generalize L.foldl (reducer_argmax_f32_i32 (F := Ideal)) (e, i) = r at hm hd ⊢
  have hdk : ∀ k : Fin 1024, Dom r (f k, BitVec.ofNat 32 k.val) := fun k => hd _ (List.mem_cons_of_mem _ ((hL _).mpr ⟨k, rfl⟩))
  have hle : ∀ k : Fin 1024, f k ≤ r.1 := fun k => by
    rcases hdk k with h | h
    · exact h.le
    · exact h.1.le
  have hr : ∃ k : Fin 1024, r = (f k, BitVec.ofNat 32 k.val) := by
    rcases List.mem_cons.mp hm with h | h
    · exfalso
      have h0 : r.1 = ⊥ := by rw [h]; exact he
      exact hf 0 (le_bot_iff.mp (h0 ▸ hle 0))
    · exact (hL r).mp h
  obtain ⟨k, rfl⟩ := hr
  refine ⟨k, rfl, hle, fun k' e => ?_⟩
  rcases hdk k' with h | h
  · exact absurd e h.ne
  · have := h.2; rw [toInt_index, toInt_index] at this; exact_mod_cast this

/-- The labels are the reduced axis. -/
theorem reduces_labels : S16x2048x1024.Reduces [2] S16x2048 := by decide

/-- The index of a position's label, as the insertion of the label's coordinate. -/
theorem lift_labels (w : Fin 16) (t : Fin 2048) (k : Fin (S16x2048x1024.size 2)) : reduces_labels.lift (ix2 w t) k = ix3 w t k := by
  funext c
  apply Fin.ext
  match c with
  | ⟨0, _⟩ => rfl
  | ⟨1, _⟩ => rfl
  | ⟨2, _⟩ => rfl

/-- The labels' indices at an index. -/
theorem iota_labels (w : Fin 16) (t : Fin 2048) (k : Fin 1024) :
    iotaInDim S16x2048x1024 32 2 (ix3 w t k) = BitVec.ofNat 32 k.val := by
  pointwise

/-- A label's pair, at the insertion of its coordinate. -/
theorem pair_labels (p : FVec Ideal S16x2048x1024 .f32) (w : Fin 16) (t : Fin 2048) (k : Fin (S16x2048x1024.size 2)) :
    (p (reduces_labels.lift (ix2 w t) k), iotaInDim S16x2048x1024 32 2 (reduces_labels.lift (ix2 w t) k))
      = (p (ix3 w t k), BitVec.ofNat 32 k.val) :=
  Prod.ext (congrArg p (lift_labels w t k)) ((congrArg (iotaInDim S16x2048x1024 32 2) (lift_labels w t k)).trans (iota_labels w t k))

/-- The reference's label, at every position. -/
theorem label_fn (p : FVec Ideal S16x2048x1024 .f32) : Ref.label p = fun j =>
    (Host.argReduce reducer_argmax_f32_i32 p (iotaInDim S16x2048x1024 32 2) (constant S_ .f32 0xFF800000#32) (constantI S_ 32 0#32)
      reducesTo_S16x2048x1024_S16x2048_d2 h_S_ j).2 := rfl

/-- Its pair, as the fold of the position's pairs. -/
theorem pair_eq (p : FVec Ideal S16x2048x1024 .f32) (j : S16x2048.Idx) :
    Host.argReduce (reducer_argmax_f32_i32 (F := Ideal)) p (iotaInDim S16x2048x1024 32 2) (constant (F := Ideal) S_ .f32 0xFF800000#32)
        (constantI S_ 32 0#32) reducesTo_S16x2048x1024_S16x2048_d2 h_S_ j
      = (Host.argReduceFiber p (iotaInDim S16x2048x1024 32 2) reducesTo_S16x2048x1024_S16x2048_d2 j).foldl (reducer_argmax_f32_i32 (F := Ideal))
        (constant (F := Ideal) S_ .f32 0xFF800000#32 (Shape.Idx.first h_S_), constantI S_ 32 0#32 (Shape.Idx.first h_S_)) := by
  rw [Ideal.argReduce_eq_reduce2, Host.reduce2_eq_foldl_fiber]

/-- The pairs of one position. -/
theorem mem_labels (p : FVec Ideal S16x2048x1024 .f32) (w : Fin 16) (t : Fin 2048) (q : Ideal .f32 × BitVec 32) :
    q ∈ Host.argReduceFiber p (iotaInDim S16x2048x1024 32 2) reducesTo_S16x2048x1024_S16x2048_d2 (ix2 w t)
      ↔ ∃ k : Fin 1024, q = (p (ix3 w t k), BitVec.ofNat 32 k.val) :=
  (mem_argReduceFiber p (iotaInDim S16x2048x1024 32 2) reducesTo_S16x2048x1024_S16x2048_d2 reduces_labels (ix2 w t) q).trans
    ⟨fun ⟨k, hk⟩ => ⟨k, hk.trans (pair_labels p w t k)⟩, fun ⟨k, hk⟩ => ⟨k, hk.trans (pair_labels p w t k).symm⟩⟩

/-- The fold starts at minus infinity. -/
theorem start_labels (j : S_.Idx) : constant (F := Ideal) S_ .f32 0xFF800000#32 j = ⊥ := by
  simp only [constant_apply, Ideal.ofBits_def, negInf]

/-- The reference's label is the first maximal one, where no entry is minus infinity. -/
theorem label_first (p : FVec Ideal S16x2048x1024 .f32) (w : Fin 16) (t : Fin 2048) (hp : ∀ k, p (ix3 w t k) ≠ ⊥) :
    IsFirst (fun k => p (ix3 w t k)) (Ref.label (F := Ideal) p (ix2 w t)) := by
  have h := first_of_foldl (fun k => p (ix3 w t k)) _ _ (start_labels (Shape.Idx.first h_S_)) (mem_labels p w t) hp (i := constantI S_ 32 0#32 (Shape.Idx.first h_S_))
  rw [label_fn]
  exact (congrArg (fun q => IsFirst (fun k => p (ix3 w t k)) q.2) (pair_eq p (ix2 w t))).mpr h

end Cert.Proof.Val
-- ==== Proof.Lse.lean ====
/- The log-softmax of a row of finite reals: its entries, its greatest entry, its order. -/
module

public import proofs.«01_k».proof.Proof.Argmax

@[expose] public section

noncomputable section

namespace Cert.Proof.Val

open Idealize.ShloMosaic

/-- The greatest entry of a row, from minus infinity. -/
abbrev top (f : Fin 1024 → EReal) : EReal := (Finset.univ : Finset (Fin 1024)).fold max ⊥ f

/-- A finite sum of reals among the extended reals. -/
theorem coe_sum {ι : Type} (S : Finset ι) (g : ι → ℝ) : (∑ i ∈ S, ((g i : ℝ) : EReal)) = ((∑ i ∈ S, g i : ℝ) : EReal) := by
  classical
  induction S using Finset.induction_on with
  | empty => simp
  | insert a S ha ih => rw [Finset.sum_insert ha, Finset.sum_insert ha, ih, EReal.coe_add]

/-- The logarithm of a sum of exponentials of reals. -/
theorem log_sum_exp (g : Fin 1024 → ℝ) : Ideal.log (∑ k, Ideal.exp ((g k : ℝ) : EReal)) = ((Real.log (∑ k, Real.exp (g k)) : ℝ) : EReal) := by
  have hpos : 0 < ∑ k, Real.exp (g k) := Finset.sum_pos (fun k _ => Real.exp_pos _) ⟨0, Finset.mem_univ _⟩
  simp only [Ideal.exp_coe]
  rw [coe_sum, Ideal.log_coe, if_neg (not_le.mpr hpos)]

section row
variable (f : Fin 1024 → EReal) (r : Fin 1024 → ℝ) (hf : ∀ k, f k = ((r k : ℝ) : EReal))
include hf

/-- The greatest entry of a finite row is finite. -/
theorem top_real : ∃ M : ℝ, top f = ((M : ℝ) : EReal) := by
  obtain ⟨⟨k, hk⟩, -⟩ := exists_eq_foldMax f
  exact ⟨r k, by rw [← hf k]; exact hk.symm⟩

/-- The log-softmax of a finite row: each entry less the logarithm of the sum of the exponentials. -/
theorem softmax_real (k : Fin 1024) : f k - top f - Ideal.log (∑ i, Ideal.exp (f i - top f))
    = ((r k - Real.log (∑ i, Real.exp (r i)) : ℝ) : EReal) := by
  obtain ⟨M, hM⟩ := top_real f r hf
  have hpos : 0 < ∑ i, Real.exp (r i) := Finset.sum_pos (fun k _ => Real.exp_pos _) ⟨0, Finset.mem_univ _⟩
  have h1 : ∀ i, f i - top f = ((r i - M : ℝ) : EReal) := fun i => by rw [hf, hM, EReal.coe_sub]
  simp only [h1]
  rw [log_sum_exp, ← EReal.coe_sub]
  congr 1
  have h2 : ∑ i, Real.exp (r i - M) = (∑ i, Real.exp (r i)) * Real.exp (-M) := by
    rw [Finset.sum_mul]; exact Finset.sum_congr rfl fun i _ => by rw [← Real.exp_add]; rfl
  rw [h2, Real.log_mul hpos.ne' (Real.exp_pos _).ne', Real.log_exp]
  ring

/-- Its greatest entry: the row's greatest less the same logarithm. -/
theorem top_softmax : top (fun k => ((r k - Real.log (∑ i, Real.exp (r i)) : ℝ) : EReal)) = top f - Ideal.log (∑ i, Ideal.exp (f i)) := by
  have hl : Ideal.log (∑ i, Ideal.exp (f i)) = ((Real.log (∑ i, Real.exp (r i)) : ℝ) : EReal) := by
    simp only [hf]; exact log_sum_exp r
  rw [hl]
  generalize Real.log (∑ i, Real.exp (r i)) = L
  obtain ⟨⟨k, hk⟩, hle⟩ := exists_eq_foldMax f
  obtain ⟨⟨l, hl'⟩, hle'⟩ := exists_eq_foldMax fun k => ((r k - L : ℝ) : EReal)
  show top _ = top f - (L : EReal)
  have ek : top f = ((r k : ℝ) : EReal) := by rw [← hf k]; exact hk.symm
  have h1 : r l ≤ r k := by
    have := hle l
    rw [← hk, hf, hf] at this
    exact EReal.coe_le_coe_iff.mp this
  have h2 : r k - L ≤ r l - L := by
    have := hle' k
    rw [← hl'] at this
    exact EReal.coe_le_coe_iff.mp this
  rw [ek, ← EReal.coe_sub]
  refine hl'.symm.trans ?_
  congr 1
  linarith

end row

end Cert.Proof.Val
-- ==== Proof.FinishAt.lean ====
/- The finishing call's payloads and the reshapes read at an index. -/
module

public import proofs.«01_k».proof.Proof.KerAt

@[expose] public section

set_option maxRecDepth 16384

noncomputable section

namespace Cert.Proof.Val

open Idealize.ShloMosaic
open Cert.KernelIdeal Cert.KernelIdeal.Gen

/-- The paths are transposed, -/
theorem finPaths_at (x : IVec S16x2048 32) (t : Fin 2048) (w : Fin 16) : k2_pay1 (F := Ideal) x (ix2 t w) = x (ix2 w t) := by
  unfold k2_pay1
  pointwise

/-- the lengths read from their first column, -/
theorem finLens_at (x : IVec S16x16 32) (w : Fin 16) : k2_pay2 (F := Ideal) x (ix2 0 w) = x (ix2 w 0) := by
  unfold k2_pay2
  pointwise

/-- and the sums added over the blocks. -/
theorem finSums_at (x : FVec Ideal S8x1x16 .f32) (w : Fin 16) : k2_pay3 (F := Ideal) x (ix2 0 w) = ∑ k : Fin 8, x (ix3 k 0 w) := by
  unfold k2_pay3
  pointwise

/-- A row of sixteen read as a vector, -/
theorem unrow_at {α : Type} (x : S1x16.Idx → α) (w : Fin 16) : shapeCast S16 x shapeCasts_S1x16_S16 (ix1 w) = x (ix2 0 w) := by
  pointwise

/-- and the vector read as a row. -/
theorem row_at {α : Type} (x : S16.Idx → α) (w : Fin 16) : shapeCast S1x16 x shapeCasts_S16_S1x16 (ix2 0 w) = x (ix1 w) := by
  pointwise

end Cert.Proof.Val
-- ==== Proof.DenseAgree.lean ====
/- The dense call agrees with the reference on finite logits: the same labels, the same greatest log-probabilities. -/
module

public import proofs.«01_k».proof.Proof.Label
public import proofs.«01_k».proof.Proof.Lse
public import proofs.«01_k».proof.Proof.FinishAt
public import proofs.«01_k».proof.Proof.Regions
public import Idealize.ShloMosaic.Lib.Pointwise.IndexBridge

@[expose] public section

set_option maxRecDepth 16384

noncomputable section

namespace Cert.Proof.Val

open Idealize.ShloMosaic
open Cert.KernelIdeal Cert.KernelIdeal.Gen
open Cert.Proof

/-- A block's entry is the array's, the block's offset added to its position. -/
theorem xBlk_at (X : FVec Ideal S2048x16x1024 .f32) (k : Fin 8) (t : Fin 256) (w : Fin 16) (v : Fin 1024) (u : Fin 2048)
    (hu : u.val = 256 * k.val + t.val) : Run.xBlk X k (ix3 t w v) = X (ix3 u w v) := by
  rw [ix3_eq_valueIdx u w v]
  unfold Run.xBlk
  refine congrArg X (congrArg (fun a : Fin 2048 => ValueIdx.ix3 a w v) (Fin.ext ?_))
  exact hu.symm

section finite
variable (X : FVec Ideal S2048x16x1024 .f32) (hX : ∀ j, ∃ r : ℝ, X j = ((r : ℝ) : EReal))
include hX

/-- The log-softmax of a finite row, in real numbers. -/
theorem lp_real (w : Fin 16) (t : Fin 2048) : ∃ r : Fin 1024 → ℝ, (∀ k, X (ix3 t w k) = ((r k : ℝ) : EReal))
    ∧ ∀ k, Ref.lp X (ix3 w t k) = ((r k - Real.log (∑ i, Real.exp (r i)) : ℝ) : EReal) := by
  choose r hr using fun k : Fin 1024 => hX (ix3 t w k)
  refine ⟨r, hr, fun k => ?_⟩
  rw [lp_at, rowMax_at, negInf]
  exact softmax_real (fun k => X (ix3 t w k)) r hr k

/-- The labels agree: the first greatest logit is the first greatest log-probability. -/
theorem amax_eq (w : Fin 16) (t : Fin 2048) : Run.amaxOf X (ix2 w t) = Ref.label (Ref.lp X) (ix2 w t) := by
  have ht := t.isLt
  obtain ⟨r, hr, hl⟩ := lp_real X hX w t
  have h1 : IsFirst (fun k => X (ix3 t w k)) (Run.amaxOf X (ix2 w t)) := by
    have h := pay2_first (Run.xBlk X ⟨t.val / 256, by omega⟩) ⟨t.val % 256, by omega⟩ w
    simp only [xBlk_at X ⟨t.val / 256, by omega⟩ ⟨t.val % 256, by omega⟩ w _ t (by show t.val = 256 * (t.val / 256) + t.val % 256; omega)] at h
    rw [ix2_eq_valueIdx] at h
    exact h
  have h2 : IsFirst (fun k => X (ix3 t w k)) (Ref.label (Ref.lp X) (ix2 w t)) := by
    refine IsFirst.of_le_iff (fun i j => ?_) (label_first (Ref.lp X) w t fun k => ?_)
    · simp only [hr, hl, EReal.coe_le_coe_iff, sub_le_sub_iff_right]
    · rw [hl]; exact EReal.coe_ne_bot _
  exact h1.unique h2

/-- The greatest log-probability is the greatest logit less the logarithm of the sum of the exponentials. -/
theorem best_eq (w : Fin 16) (t : Fin 2048) : Ref.best (Ref.lp X) (ix2 w t)
    = top (fun k => X (ix3 t w k)) - Ideal.log (∑ k, Ideal.exp (X (ix3 t w k))) := by
  obtain ⟨r, hr, hl⟩ := lp_real X hX w t
  rw [best_at, negInf]
  simp only [hl]
  exact top_softmax (fun k => X (ix3 t w k)) r hr

end finite

end Cert.Proof.Val
-- ==== Proof.SumsAgree.lean ====
/- The sums agree: the blocks' partial sums add up to the reference's sum over the positions. -/
module

public import proofs.«01_k».proof.Proof.DenseAgree
public import proofs.«01_k».proof.Proof.Label
public import proofs.«01_k».proof.Proof.Lse
public import proofs.«01_k».proof.Proof.FinishAt
public import proofs.«01_k».proof.Proof.Regions
public import Idealize.ShloMosaic.Lib.Pointwise.IndexBridge

@[expose] public section

set_option maxRecDepth 16384

noncomputable section

namespace Cert.Proof.Val

open Idealize.ShloMosaic
open Cert.KernelIdeal Cert.KernelIdeal.Gen
open Cert.Proof

/-- The grid's coordinate at a block. -/
theorem coord_at : ∀ t : Fin cfg0.N, (grid0.coords t 0).val = t.val := (by decide +kernel : ∀ t : Fin grid0.N, (grid0.coords t 0).val = t.val)

/-- A block's offset and a position of the block, added. -/
theorem offset_word (k t : ℕ) (hk : k < 8) (ht : t < 256) :
    IntOp.addi (Scalar.muli (BitVec.ofNat 32 k) 256#32) (BitVec.ofNat 32 t) = BitVec.ofNat 32 (256 * k + t) := by
  show BitVec.ofNat 32 k * BitVec.ofNat 32 256 + BitVec.ofNat 32 t = _
  rw [← BitVec.ofNat_mul, ← BitVec.ofNat_add, Nat.mul_comm]

/-- A masked difference at an index. -/
theorem masked_at (c : IVec S256x16 1) (a b : FVec Ideal S256x16 .f32) (j : S256x16.Idx) :
    select c (subf (F := Ideal) a (log (F := Ideal) b)) (broadcast S256x16 (Scalar.ofBits (F := Ideal) .f32 0x00000000#32)) j
      = Scalar.select (c j) (a j - Ideal.log (b j)) (Ideal.ofBits .f32 0x00000000#32) := rfl

/-- The masked block sum at a column. -/
theorem pay3_at (i : grid0.Coords) (x : FVec Ideal S256x16x1024 .f32) (ln : IVec S1x16 32) (w : Fin 16) :
    k0_pay3 (F := Ideal) i x ln (ix3 0 0 w) = ∑ t : Fin 256, Scalar.select
      (IntOp.cmpi .slt (IntOp.addi (Scalar.muli (BitVec.ofNat 32 (i 0).val) 256#32) (BitVec.ofNat 32 t.val)) (ln (ix2 0 w)))
      (k0_pay1 (F := Ideal) x (ix2 t w) - Ideal.log (sumExp x (ix2 t w))) (Ideal.ofBits .f32 0x00000000#32) := by
  rw [pay3_eq, colSum_at]
  refine Finset.sum_congr rfl fun t _ => ?_
  rw [masked_at, inBlk_at]

/-- The partial sums at a block and a column are the block's payload there. -/
theorem partsOf_at (X : FVec Ideal S2048x16x1024 .f32) (ln : IVec S1x16 32) (k : Fin 8) (w : Fin 16) :
    Run.partsOf X ln (ix3 k 0 w) = k0_pay3 (F := Ideal) (grid0.coords (Run.ptOf k)) (Run.xBlk X k) ln (ix3 0 0 w) := by
  rw [ix3_eq_valueIdx 0 0 w]
  unfold Run.partsOf
  rfl

/-- Zero's pattern. -/
theorem zeroBits : Ideal.ofBits .f32 0x00000000#32 = 0 := by simp [Ideal.ofBits, Ideal.ieee]

/-- A row's greatest entry, the kernel's. -/
theorem pay1_top (x : FVec Ideal S256x16x1024 .f32) (t : Fin 256) (w : Fin 16) :
    k0_pay1 (F := Ideal) x (ix2 t w) = top fun v => x (ix3 t w v) := by
  rw [pay1_at, negInf, top]

/-- A block's partial sum. -/
theorem parts_at (X : FVec Ideal S2048x16x1024 .f32) (ln : IVec S1x16 32) (k : Fin 8) (w : Fin 16) :
    Run.partsOf X ln (ix3 k 0 w) = ∑ t : Fin 256, Scalar.select (IntOp.cmpi .slt (BitVec.ofNat 32 (256 * k.val + t.val)) (ln (ix2 0 w)))
      (top (fun v => Run.xBlk X k (ix3 t w v)) - Ideal.log (∑ v, Ideal.exp (Run.xBlk X k (ix3 t w v)))) 0 := by
  have hc : (grid0.coords (Run.ptOf k) 0).val = k.val := coord_at (Run.ptOf k)
  rw [partsOf_at, pay3_at, hc]
  refine Finset.sum_congr rfl fun t _ => ?_
  rw [offset_word k.val t.val k.isLt t.isLt, pay1_top, sumExp_at, zeroBits]

/-- A masked log-probability of one position, over all the sequence. -/
def term (X : FVec Ideal S2048x16x1024 .f32) (L : IVec S16 32) (w : Fin 16) (t : Fin 2048) : EReal :=
  Scalar.select (IntOp.cmpi .slt (BitVec.ofNat 32 t.val) (L (ix1 w)))
    (top (fun v => X (ix3 t w v)) - Ideal.log (∑ v, Ideal.exp (X (ix3 t w v)))) 0

/-- The sum over the blocks and the positions of a block is the sum over the positions. -/
theorem sum_blocks (f : Fin 2048 → EReal) :
    ∑ k : Fin 8, ∑ t : Fin 256, f ⟨256 * k.val + t.val, by omega⟩ = ∑ u, f u := by
  rw [← Fintype.sum_prod_type']
  refine Fintype.sum_equiv (finProdFinEquiv (m := 8) (n := 256)) _ f fun p => congrArg f (Fin.ext ?_)
  show 256 * p.1.val + p.2.val = (finProdFinEquiv p : Fin (8 * 256)).val
  rw [finProdFinEquiv_apply_val, Nat.add_comm]

/-- The kernel's sum is that of the masked log-probabilities, -/
theorem kerSum_eq (X : FVec Ideal S2048x16x1024 .f32) (L : IVec S16 32) (w : Fin 16) :
    k2_pay3 (F := Ideal) (Run.partsOf X (shapeCast S1x16 L shapeCasts_S16_S1x16)) (ix2 0 w) = ∑ u, term X L w u := by
  rw [finSums_at, ← sum_blocks (term X L w)]
  refine Finset.sum_congr rfl fun k _ => ?_
  rw [parts_at]
  refine Finset.sum_congr rfl fun t _ => ?_
  have hx : ∀ v, Run.xBlk X k (ix3 t w v) = X (ix3 (⟨256 * k.val + t.val, by omega⟩ : Fin 2048) w v) := fun v =>
    xBlk_at X k t w v ⟨256 * k.val + t.val, by omega⟩ rfl
  simp only [hx, row_at]
  rw [term]

/-- and so is the reference's on finite logits. -/
theorem refSum_eq (X : FVec Ideal S2048x16x1024 .f32) (hX : ∀ j, ∃ r : ℝ, X j = ((r : ℝ) : EReal)) (L : IVec S16 32) (w : Fin 16) :
    Ref.total (Ref.scores (Ref.best (Ref.lp X)) L) (ix1 w) = ∑ u, term X L w u := by
  rw [total_at]
  refine Finset.sum_congr rfl fun t _ => ?_
  rw [scores_at, best_eq X hX, term]

end Cert.Proof.Val
-- ==== Proof.RowAt.lean ====
/- The reference's row operations read at a place: the mask, the wrapped indices and the gather along the rows. -/
module

public import proofs.«01_k».proof.Proof.RefVal
public import Idealize.ShloMosaic.Lib.Pointwise

@[expose] public section

set_option maxRecDepth 16384

noncomputable section

namespace Cert.Proof.Val

open Idealize.ShloMosaic
open Cert.ReferenceIdeal Cert.ReferenceIdeal.Gen
open Cert.Proof

/-- The mask at a place: the label is no blank, it differs from the one before it, and the place lies within the length. -/
theorem mask_at (a : IVec S16x2048 32) (ln : IVec S16 32) (t : Fin 2048) (w : Fin 16) :
    Ref.mask a ln (ix2 w t) = IntOp.andi
      (if h : t.val < 1 then IntOp.cmpi .ne (a (ix2 w t)) 0#32
        else IntOp.andi (IntOp.cmpi .ne (a (ix2 w ⟨1 + (t.val - 1), by omega⟩)) 0#32)
          (IntOp.cmpi .ne (a (ix2 w ⟨1 + (t.val - 1), by omega⟩)) (a (ix2 w ⟨t.val - 1, by omega⟩))))
      (IntOp.cmpi .slt (BitVec.ofNat 32 t.val) (ln (ix1 w))) := by
  unfold Ref.mask Ref.joined Ref.nonBlank Ref.inLen Ref.pos
  pointwise

/-- A wrapped index: a negative one is counted from the end. -/
theorem wrapped_at (o : IVec S16x2048 32) (t : Fin 2048) (w : Fin 16) (z : Fin 1) :
    Ref.wrapped o (ix3 w t z) = Scalar.select (IntOp.cmpi .slt (o (ix2 w t)) 0#32) (IntOp.addi (o (ix2 w t)) 2048#32) (o (ix2 w t)) := by
  unfold Ref.wrapped
  pointwise

/-- An index is in the row if it is neither negative nor past the last place. -/
theorem inRow_at (o : IVec S16x2048x1 32) (t : Fin 2048) (w : Fin 16) :
    Ref.inRow o (ix2 w t) = IntOp.andi (IntOp.cmpi .sge (o (ix3 w t 0)) 0#32) (IntOp.cmpi .sle (o (ix3 w t 0)) 2047#32) := by
  have h : Ref.inRow o (ix2 w t) = (Finset.univ : Finset (Fin 1)).fold IntOp.andi 1#1
      fun z => IntOp.andi (IntOp.cmpi .sge (o (ix3 w t z)) 0#32) (IntOp.cmpi .sle (o (ix3 w t z)) 2047#32) := by
    unfold Ref.inRow
    pointwise
  rw [h, Finset.univ_unique, Finset.fold_singleton]
  unfold IntOp.andi
  exact BitVec.and_allOnes

/-- The dimension numbers of a gather along each row's positions, one index a place. -/
abbrev alongDims (R C : Nat) (wf : GatherDims.WF ⟨2, ![R, C]⟩ ⟨3, ![R, C, 1]⟩ ⟨2, ![R, C]⟩ [] [1] [0] [1] [0] 2 ![1, 1]) :
    GatherDims ⟨2, ![R, C]⟩ ⟨3, ![R, C, 1]⟩ ⟨2, ![R, C]⟩ :=
  ⟨[], [1], [0], [0], [1], 2, ![1, 1], wf⟩

/-- Such a gather reads, at each place, the entry of the same row that the index names. -/
theorem gather_along {R C : Nat} (wf : GatherDims.WF ⟨2, ![R, C]⟩ ⟨3, ![R, C, 1]⟩ ⟨2, ![R, C]⟩ [] [1] [0] [1] [0] 2 ![1, 1])
    (a : (⟨2, ![R, C]⟩ : Shape).Idx → BitVec 32) (o : IVec ⟨3, ![R, C, 1]⟩ 32) (w : Fin R) (t c : Fin C)
    (h : (o (ix3 w t (0 : Fin 1))).toInt = c.val) : Host.gather (alongDims R C wf) a o (ix2 w t) = a (ix2 w c) := by
  have hC := c.isLt
  refine congrArg a (funext fun x => Fin.ext ?_)
  show (alongDims R C wf).start (ix2 w t) o x + (alongDims R C wf).batchCoord (ix2 w t) x + (alongDims R C wf).offCoord (ix2 w t) x = _
  have h01 : x = 0 ∨ x = 1 := by
    match x with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    have hm : (1 : Fin 2) ∈ (alongDims R C wf).startIndexMap := List.mem_singleton.mpr rfl
    rw [dif_pos hm]
    have hi : (alongDims R C wf).siIdx (ix2 w t) ⟨List.idxOf (1 : Fin 2) (alongDims R C wf).startIndexMap, List.idxOf_lt_length_iff.2 hm⟩
        = ix3 w t (0 : Fin 1) := by
      funext b
      refine Fin.ext ?_
      match b with
      | ⟨0, _⟩ => rfl
      | ⟨1, _⟩ => rfl
      | ⟨2, _⟩ => rfl
    rw [hi, h]
    show min (Int.toNat (c.val : ℤ)) (C - 1) = c.val
    omega

/-- What is taken at a place: the gathered label where the index is in the row. -/
theorem taken_at (a o : IVec S16x2048 32) (t : Fin 2048) (w : Fin 16) :
    Ref.taken a o (ix2 w t) = Scalar.select (Ref.inRow (Ref.wrapped o) (ix2 w t)) (Host.gather gather_S16x2048_S16x2048x1_S16x2048_n_1_0_0_1_2_11 a (Ref.wrapped o) (ix2 w t)) 2147483648#32 := by
  unfold Ref.taken
  pointwise

end Cert.Proof.Val
-- ==== Proof.OrderAt.lean ====
/- The reference's order: the stable sort of the mask's complement along each row, and the labels it takes. -/
module

public import proofs.«01_k».proof.Proof.RowAt
public import Idealize.ShloMosaic.Lib.SortFacts

@[expose] public section

set_option maxRecDepth 16384

noncomputable section

namespace Cert.Proof.Val

open Idealize.ShloMosaic
open Cert.ReferenceIdeal Cert.ReferenceIdeal.Gen
open Cert.Proof

/-- Position `i` goes strictly before position `j` in row `w`: the first is kept and the second is not. -/
def before (k : IVec S16x2048 1) (w : Fin 16) (i j : Fin 2048) : Bool := decide (k (ix2 w i) = 1#1) && !decide (k (ix2 w j) = 1#1)

section rows
variable {R C : ℕ}

/-- The place `c` of a row. -/
theorem along_row (w : Fin R) (t c : Fin C) (h : 1 < (⟨2, ![R, C]⟩ : Shape).rank) :
    (ix2 w t : (⟨2, ![R, C]⟩ : Shape).Idx).along ⟨1, h⟩ c = ix2 w c := by
  funext b
  match b with
  | ⟨0, _⟩ => rfl
  | ⟨1, _⟩ => rfl

/-- A sort of two operands along the rows, its second result at a place. -/
theorem sort2_row {α β : Type} (cmp : α × β → α × β → BitVec 1) (x : (⟨2, ![R, C]⟩ : Shape).Idx → α) (y : (⟨2, ![R, C]⟩ : Shape).Idx → β)
    (w : Fin R) (t : Fin C) : (Host.sort2 ⟨2, ![R, C]⟩ 1 cmp x y).2 (ix2 w t)
      = y (ix2 w (sortedFrom (fun i j : Fin C => cmp (x (ix2 w i), y (ix2 w i)) (x (ix2 w j), y (ix2 w j)) == 1#1) t)) := by
  have hd : 1 < (⟨2, ![R, C]⟩ : Shape).rank := Nat.lt_succ_self 1
  have hb : (fun i j : Fin C => cmp (x ((ix2 w t).along ⟨1, hd⟩ i), y ((ix2 w t).along ⟨1, hd⟩ i))
      (x ((ix2 w t).along ⟨1, hd⟩ j), y ((ix2 w t).along ⟨1, hd⟩ j)) == 1#1)
      = fun i j : Fin C => cmp (x (ix2 w i), y (ix2 w i)) (x (ix2 w j), y (ix2 w j)) == 1#1 := by
    funext i j
    rw [along_row w t i hd, along_row w t j hd]
  unfold Host.sort2
  rw [dif_pos hd]
  exact (congrArg (fun c : Fin C => y ((ix2 w t).along ⟨1, hd⟩ c)) (congrArg (fun f : Fin C → Fin C → Bool => sortedFrom f t) hb)).trans
    (congrArg y (along_row w t _ hd))

end rows

/-- Comparing the complements of two bits. -/
theorem comp_bits : ∀ a b : BitVec 1, (IntOp.cmpi .slt (BitVec.setWidth 32 (~~~a)) (BitVec.setWidth 32 (~~~b)) == 1#1)
    = (decide (a = 1#1) && !decide (b = 1#1)) := by decide

/-- The sort's comparison is that of the kept before the others. -/
theorem before_eq (k : IVec S16x2048 1) (w : Fin 16) : (fun i j : Fin 2048 => comparator_i32_i32_d1
      (extui 32 (noti k) natLt_1_32 (ix2 w i), iotaInDim S16x2048 32 1 (ix2 w i))
      (extui 32 (noti k) natLt_1_32 (ix2 w j), iotaInDim S16x2048 32 1 (ix2 w j)) == 1#1) = before k w :=
  funext fun i => funext fun j => comp_bits (k (ix2 w i)) (k (ix2 w j))

/-- The order at a place is the position the stable sort puts there. -/
theorem order_at (k : IVec S16x2048 1) (w : Fin 16) (t : Fin 2048) :
    Ref.order k (ix2 w t) = BitVec.ofNat 32 (sortedFrom (before k w) t).val := by
  rw [← before_eq]
  exact sort2_row comparator_i32_i32_d1 _ _ w t

/-- A position's word, signed. -/
theorem toInt_pos (c : ℕ) (h : c ≤ 2048) : (BitVec.ofNat 32 c).toInt = c := by
  rw [BitVec.toInt_ofNat']
  norm_num [Int.bmod]
  omega

/-- The signed comparison of two positions' words. -/
theorem slt_pos (a b : ℕ) (ha : a ≤ 2048) (hb : b ≤ 2048) : (BitVec.ofNat 32 a).slt (BitVec.ofNat 32 b) = decide (a < b) := by
  rw [Bool.eq_iff_iff, BitVec.slt_iff_toInt_lt, toInt_pos a ha, toInt_pos b hb]
  simp

/-- The labels taken: at each place, the label of the position the stable sort puts there. -/
theorem taken_order (a : IVec S16x2048 32) (k : IVec S16x2048 1) (w : Fin 16) (t : Fin 2048) :
    Ref.taken a (Ref.order k) (ix2 w t) = a (ix2 w (sortedFrom (before k w) t)) := by
  generalize hc : sortedFrom (before k w) t = c
  have hlt := c.isLt
  have hw : Ref.wrapped (Ref.order k) (ix3 w t 0) = BitVec.ofNat 32 c.val := by
    rw [wrapped_at, order_at, hc]
    have h0 : IntOp.cmpi .slt (BitVec.ofNat 32 c.val) 0#32 = 0#1 := by
      show BitVec.ofBool ((BitVec.ofNat 32 c.val).slt (BitVec.ofNat 32 0)) = _
      rw [slt_pos _ _ (by omega) (by omega)]; simp
    rw [h0]; rfl
  have hin : Ref.inRow (Ref.wrapped (Ref.order k)) (ix2 w t) = 1#1 := by
    rw [inRow_at, hw]
    have h1 : IntOp.cmpi .sge (BitVec.ofNat 32 c.val) 0#32 = 1#1 := by
      show BitVec.ofBool ((BitVec.ofNat 32 0).sle (BitVec.ofNat 32 c.val)) = _
      have : (BitVec.ofNat 32 0).sle (BitVec.ofNat 32 c.val) = true := by
        rw [BitVec.sle_iff_toInt_le, toInt_pos _ (by omega), toInt_pos _ (by omega)]; omega
      rw [this]; rfl
    have h2 : IntOp.cmpi .sle (BitVec.ofNat 32 c.val) 2047#32 = 1#1 := by
      show BitVec.ofBool ((BitVec.ofNat 32 c.val).sle (BitVec.ofNat 32 2047)) = _
      have : (BitVec.ofNat 32 c.val).sle (BitVec.ofNat 32 2047) = true := by
        rw [BitVec.sle_iff_toInt_le, toInt_pos _ (by omega), toInt_pos _ (by omega)]; omega
      rw [this]; rfl
    rw [h1, h2]; rfl
  rw [taken_at, hin]
  show Host.gather (alongDims 16 2048 gather_S16x2048_S16x2048x1_S16x2048_n_1_0_0_1_2_11_wf) a (Ref.wrapped (Ref.order k)) (ix2 w t) = _
  exact gather_along _ a _ w t c (by rw [hw, toInt_pos _ (by omega)])

end Cert.Proof.Val
-- ==== Proof.Sorted.lean ====
/- The compaction as a stable sort: the kept positions in their order come first, and the row's buffer after the in-place compaction holds
   their labels. -/
module

public import proofs.«01_k».proof.Proof.Compact
public import Idealize.ShloMosaic.Lib.SortFacts
public import Idealize.ShloMosaic.Lib.IndicatorCount

@[expose] public section

namespace Cert.Proof.Compact

open Idealize.ShloMosaic

/-! ## A stable sort by one bit -/

section bit
variable {ι : Type} (K : ι → Bool) (before : ι → ι → Bool) (hb : ∀ a b, before a b = (K a && !K b))
include hb

/-- Inserting a kept element puts it first. -/
theorem insertBefore_kept (a : ι) (h : K a = true) (l : List ι) : insertBefore before a l = a :: l := by
  cases l with
  | nil => rfl
  | cons b l => simp [insertBefore, hb, h]

/-- Inserting another element puts it after the kept ones. -/
theorem insertBefore_other (a : ι) (h : K a = false) (l l' : List ι) (hl : ∀ b ∈ l, K b = true) (hl' : ∀ b ∈ l', K b = false) :
    insertBefore before a (l ++ l') = l ++ a :: l' := by
  induction l with
  | nil =>
    cases l' with
    | nil => rfl
    | cons b l' => simp [insertBefore, hb, hl' b (by simp)]
  | cons b l ih =>
    have hbK : K b = true := hl b (by simp)
    simp only [List.cons_append, insertBefore, hb, hbK, h, Bool.not_false, Bool.and_self, if_true]
    rw [ih fun c hc => hl c (by simp [hc])]

/-- The stable sort by a bit: those with the bit, then the others, each in their order. -/
theorem stableSort_bit (l : List ι) : stableSort before l = l.filter (fun i => K i) ++ l.filter (fun i => !K i) := by
  induction l with
  | nil => rfl
  | cons a l ih =>
    rw [stableSort, ih]
    by_cases h : K a = true
    · rw [insertBefore_kept K before hb a h]; simp [h]
    · have h' : K a = false := by simpa using h
      rw [insertBefore_other K before hb a h' _ _ (by simp) (by simp)]
      simp [h']

end bit

/-! ## The kept positions -/

section kept
variable (a : ℕ → BitVec 32) (ln : BitVec 32)

/-- The kept positions among the first `n`. -/
def keptList (n : ℕ) : List ℕ := (List.range n).filter fun i => decide (keep a ln i)

/-- One more position lengthens the list if it is kept. -/
theorem keptList_succ (n : ℕ) : keptList a ln (n + 1) = if keep a ln n then keptList a ln n ++ [n] else keptList a ln n := by
  unfold keptList
  rw [List.range_succ, List.filter_append]
  by_cases h : keep a ln n <;> simp [h]

/-- The list is as long as the count. -/
theorem length_keptList (n : ℕ) : (keptList a ln n).length = cnt a ln n := by
  induction n with
  | zero => rfl
  | succ n ih =>
    rw [keptList_succ]
    by_cases h : keep a ln n
    · rw [if_pos h, cnt_succ_keep h, List.length_append, ih]; rfl
    · rw [if_neg h, cnt_succ_not h, ih]

/-- Below the count the buffer holds the kept labels in order, from it on the row's own. -/
theorem outN_spec (n : ℕ) : (∀ (r : ℕ) (h : r < (keptList a ln n).length), outN a ln n r = a (keptList a ln n)[r])
    ∧ ∀ r, cnt a ln n ≤ r → outN a ln n r = a r := by
  induction n with
  | zero => exact ⟨fun r h => absurd h (by simp [keptList]), fun r _ => rfl⟩
  | succ n ih =>
    by_cases h : keep a ln n
    · have hk : keptList a ln (n + 1) = keptList a ln n ++ [n] := by rw [keptList_succ, if_pos h]
      have hl := length_keptList a ln n
      refine ⟨fun r hr => ?_, fun r hr => ?_⟩
      · rw [outN_succ_keep h]
        simp only [hk]
        by_cases hr' : r < (keptList a ln n).length
        · rw [Function.update_of_ne (by omega), List.getElem_append_left hr', ih.1 r hr']
        · have : r = (keptList a ln n).length := by rw [hk, List.length_append] at hr; simp at hr; omega
          subst this
          exact Eq.trans (b := a n) (by rw [hl, Function.update_self]) (by simp)
      · rw [cnt_succ_keep h] at hr
        rw [outN_succ_keep h, Function.update_of_ne (by omega), ih.2 r (by omega)]
    · have hk : keptList a ln (n + 1) = keptList a ln n := by rw [keptList_succ, if_neg h]
      refine ⟨fun r hr => ?_, fun r hr => ?_⟩
      · rw [outN_succ_not h]
        simp only [hk]
        exact ih.1 r (by rw [hk] at hr; exact hr)
      · rw [cnt_succ_not h] at hr
        rw [outN_succ_not h, ih.2 r hr]

/-- The kept positions, listed as positions of a row of `n`. -/
theorem map_filter_finRange (n : ℕ) (K : Fin n → Bool) (hK : ∀ i, K i = decide (keep a ln i.val)) :
    ((List.finRange n).filter fun i => K i).map Fin.val = keptList a ln n := by
  unfold keptList
  rw [← List.map_coe_finRange_eq_range, List.filter_map]
  congr 1
  exact List.filter_congr fun i _ => hK i

/-- How many bits are set is the count. -/
theorem card_kept (n : ℕ) (p : Fin n → BitVec 1) (hp : ∀ i, p i = 1#1 ↔ keep a ln i.val) :
    (Finset.univ.filter fun i => p i = 1#1).card = cnt a ln n := by
  rw [← length_keptList, ← map_filter_finRange a ln n (fun i => decide (p i = 1#1)) (fun i => by rw [decide_eq_decide]; exact hp i), List.length_map]
  rw [← List.toFinset_card_of_nodup ((List.nodup_finRange n).filter _)]
  congr 1
  ext i
  simp

/-- The source of place `r` below the count is the `r`-th kept position: there the buffer holds the source's label. -/
theorem outN_sorted (n : ℕ) (before : Fin n → Fin n → Bool) (K : Fin n → Bool) (hK : ∀ i, K i = decide (keep a ln i.val))
    (hb : ∀ i j, before i j = (K i && !K j)) (r : Fin n) (hr : r.val < cnt a ln n) :
    outN a ln n r.val = a (sortedFrom before r).val := by
  have hlen : r.val < (keptList a ln n).length := by rw [length_keptList]; exact hr
  rw [(outN_spec a ln n).1 r.val hlen]
  congr 1
  have hs : sortPositions n before = (List.finRange n).filter (fun i => K i) ++ (List.finRange n).filter (fun i => !K i) :=
    stableSort_bit K before hb _
  have hm := map_filter_finRange a ln n K hK
  have hlen' : r.val < ((List.finRange n).filter fun i => K i).length := by rw [← hm, List.length_map] at hlen; exact hlen
  have e1 : (sortedFrom before r).val = ((sortPositions n before)[r.val]'(by rw [length_sortPositions]; exact r.isLt)).val := rfl
  rw [e1]
  simp only [hs, ← hm]
  rw [List.getElem_append_left hlen', List.getElem_map]

end kept

end Cert.Proof.Compact
-- ==== Proof.RowsAgree.lean ====
/- The rows agree: from the same labels and lengths, the kernel's compaction and the reference's stable sort give the same
   counts and the same paths. -/
module

public import proofs.«01_k».proof.Proof.OrderAt
public import proofs.«01_k».proof.Proof.RefAt
public import proofs.«01_k».proof.Proof.Sorted
public import proofs.«01_k».proof.Proof.Setup
public import Idealize.ShloMosaic.Lib.Pointwise.IndexBridge

@[expose] public section

set_option maxRecDepth 16384

noncomputable section

namespace Cert.Proof.Val

open Idealize.ShloMosaic
open Cert.ReferenceIdeal Cert.ReferenceIdeal.Gen
open Cert.Proof Cert.Proof.Compact

variable (A : IVec S16x2048 32) (L : IVec S16 32)

/-- A row of labels at a place of it. -/
theorem rowOf_at (w : Fin 16) (n : ℕ) (hn : n < 2048) : Run.rowOf A w.val n = A (ix2 w ⟨n, hn⟩) := by
  rw [ix2_eq_valueIdx]
  exact dif_pos ⟨w.isLt, hn⟩

/-- A sequence's length. -/
theorem lenOf_at (w : Fin 16) : Run.lenOf L w.val = L (ix1 w) := by
  rw [ix1_eq_valueIdx]
  exact dif_pos w.isLt

/-- A comparison of words for inequality, as a bit. -/
theorem ne_bit (x y : BitVec 32) : IntOp.cmpi .ne x y = 1#1 ↔ x ≠ y := by
  show BitVec.ofBool (x != y) = 1#1 ↔ _
  rw [show (x != y) = decide (x ≠ y) by by_cases h : x = y <;> simp [h]]
  by_cases h : x = y <;> simp [h]

/-- A comparison of words for order, as a bit. -/
theorem slt_bit (x y : BitVec 32) : IntOp.cmpi .slt x y = 1#1 ↔ x.slt y = true := by
  show BitVec.ofBool (x.slt y) = 1#1 ↔ _
  cases x.slt y <;> simp

/-- The reference keeps a position exactly if the kernel does. -/
theorem mask_iff (w : Fin 16) (t : Fin 2048) :
    Ref.mask A L (ix2 w t) = 1#1 ↔ keep (Run.rowOf A w.val) (Run.lenOf L w.val) t.val := by
  have ht := t.isLt
  unfold keep
  rw [mask_at, IntOp.andi_eq_one, slt_bit, lenOf_at, rowOf_at A w t.val ht, rowOf_at A w (t.val - 1) (by omega), ← and_assoc]
  refine and_congr_left fun _ => ?_
  by_cases h : t.val < 1
  · rw [dif_pos h, ne_bit]
    exact ⟨fun h1 => ⟨h1, Or.inr (by omega)⟩, fun h1 => h1.1⟩
  · have e : (⟨1 + (t.val - 1), by omega⟩ : Fin 2048) = ⟨t.val, ht⟩ := Fin.ext (by show 1 + (t.val - 1) = t.val; omega)
    rw [dif_neg h, IntOp.andi_eq_one, ne_bit, ne_bit, e]
    exact and_congr_right fun _ => ⟨Or.inl, fun h1 => h1.resolve_right (by omega)⟩

/-- A select of the first, -/
theorem select_one {α : Type} (a b : α) : Scalar.select 1#1 a b = a := rfl
/-- and of the second. -/
theorem select_zero {α : Type} (a b : α) : Scalar.select 0#1 a b = b := rfl

/-- The counts agree. -/
theorem count_eq (w : Fin 16) : Ref.count (Ref.mask A L) (ix1 w)
    = BitVec.ofNat 32 (cnt (Run.rowOf A w.val) (Run.lenOf L w.val) 2048) := by
  rw [count_at, IndicatorCount.fold_addi_setWidth_eq_card,
    card_kept _ _ 2048 (fun t : Fin 2048 => Ref.mask A L (ix2 w t)) (mask_iff A L w)]

/-- The paths agree. -/
theorem paths_eq (w : Fin 16) (t : Fin 2048) :
    Ref.paths A (Ref.taken A (Ref.order (Ref.mask A L))) (Ref.count (Ref.mask A L)) (ix2 t w)
      = outN (Run.rowOf A w.val) (Run.lenOf L w.val) 2048 t.val := by
  have ht := t.isLt
  rw [paths_at, count_eq, taken_order]
  have hc : cnt (Run.rowOf A w.val) (Run.lenOf L w.val) 2048 ≤ 2048 := cnt_le 2048
  by_cases h : t.val < cnt (Run.rowOf A w.val) (Run.lenOf L w.val) 2048
  · rw [(slt_bit _ _).mpr (by rw [slt_pos _ _ (by omega) hc]; exact decide_eq_true h)]
    rw [outN_sorted _ _ 2048 (before (Ref.mask A L) w) (fun i => decide (Ref.mask A L (ix2 w i) = 1#1))
      (fun i => decide_eq_decide.mpr (mask_iff A L w i)) (fun _ _ => rfl) t h]
    generalize sortedFrom (before (Ref.mask A L) w) t = c
    rw [rowOf_at A w c.val c.isLt, select_one]
  · have h0 : IntOp.cmpi .slt (BitVec.ofNat 32 t.val) (BitVec.ofNat 32 (cnt (Run.rowOf A w.val) (Run.lenOf L w.val) 2048)) = 0#1 := by
      show BitVec.ofBool ((BitVec.ofNat 32 t.val).slt (BitVec.ofNat 32 (cnt (Run.rowOf A w.val) (Run.lenOf L w.val) 2048))) = 0#1
      rw [slt_pos _ _ (by omega) hc, decide_eq_false h]; rfl
    rw [h0, (outN_spec (Run.rowOf A w.val) (Run.lenOf L w.val) 2048).2 t.val (by omega), rowOf_at A w t.val ht, select_zero]

end Cert.Proof.Val
-- ==== Proof.Agree.lean ====
/- The kernel's three results and the reference's, as functions of the same finite logits and lengths, are equal. -/
module

public import proofs.«01_k».proof.Proof.DenseAgree
public import proofs.«01_k».proof.Proof.SumsAgree
public import proofs.«01_k».proof.Proof.RowsAgree

@[expose] public section

set_option maxRecDepth 16384

noncomputable section

namespace Cert.Proof.Val

open Idealize.ShloMosaic
open Cert.KernelIdeal Cert.KernelIdeal.Gen
open Cert.Proof Cert.Proof.Compact

/-- An index of a matrix by its coordinates, -/
theorem eq_ix2' {R C : ℕ} (j : (⟨2, ![R, C]⟩ : Shape).Idx) : ∃ (t : Fin R) (w : Fin C), j = ix2 t w :=
  ⟨j 0, j 1, (ValueIdx.eq_ix2 j).trans (ix2_eq_valueIdx (j 0 : Fin R) (j 1 : Fin C)).symm⟩
/-- and of a vector. -/
theorem eq_ix1' {R : ℕ} (j : (⟨1, ![R]⟩ : Shape).Idx) : ∃ w : Fin R, j = ix1 w :=
  ⟨j 0, (ValueIdx.eq_ix1 j).trans (ix1_eq_valueIdx (j 0 : Fin R)).symm⟩

/-- The compacted rows at a place. -/
theorem pathsOf_at (A : IVec S16x2048 32) (L : IVec S16 32) (w : Fin 16) (t : Fin 2048) :
    Run.pathsOf A L (ix2 w t) = outN (Run.rowOf A w.val) (Run.lenOf L w.val) 2048 t.val := rfl

/-- The counts at a place. -/
theorem lensOf_at (A : IVec S16x2048 32) (L : IVec S16 32) (w : Fin 16) :
    Run.lensOf A L (ix2 w 0) = BitVec.ofNat 32 (cnt (Run.rowOf A w.val) (Run.lenOf L w.val) 2048) := rfl

variable (X : FVec Ideal S2048x16x1024 .f32) (hX : ∀ j, ∃ r : ℝ, X j = ((r : ℝ) : EReal)) (L : IVec S16 32)
include hX

/-- The labels. -/
theorem labels_agree : Run.amaxOf X = Ref.label (Ref.lp X) := by
  funext j
  obtain ⟨w, t, rfl⟩ := eq_ix2' j
  exact amax_eq X hX w t

/-- The sums. -/
theorem sums_agree : Ref.total (Ref.scores (Ref.best (Ref.lp X)) L)
    = shapeCast S16 (k2_pay3 (F := Ideal) (Run.partsOf X (shapeCast S1x16 L shapeCasts_S16_S1x16))) shapeCasts_S1x16_S16 := by
  funext j
  obtain ⟨w, rfl⟩ := eq_ix1' j
  rw [refSum_eq X hX, unrow_at, kerSum_eq]

/-- The paths. -/
theorem paths_agree : Ref.paths (Ref.label (Ref.lp X)) (Ref.taken (Ref.label (Ref.lp X)) (Ref.order (Ref.mask (Ref.label (Ref.lp X)) L)))
      (Ref.count (Ref.mask (Ref.label (Ref.lp X)) L))
    = k2_pay1 (F := Ideal) (Run.pathsOf (Run.amaxOf X) L) := by
  rw [labels_agree X hX]
  funext j
  obtain ⟨t, w, rfl⟩ := eq_ix2' j
  rw [finPaths_at, pathsOf_at]
  exact paths_eq _ _ w t

/-- The lengths. -/
theorem lens_agree : Ref.count (Ref.mask (Ref.label (Ref.lp X)) L)
    = shapeCast S16 (k2_pay2 (F := Ideal) (Run.lensOf (Run.amaxOf X) L)) shapeCasts_S1x16_S16 := by
  rw [labels_agree X hX]
  funext j
  obtain ⟨w, rfl⟩ := eq_ix1' j
  rw [unrow_at, finLens_at, lensOf_at]
  exact count_eq _ _ w

end Cert.Proof.Val
-- ==== Proof.lean ====
/- The certificate: the kernel, its ideal and the ideal reference run to the end, keep their arguments and leave every counter at
   zero; the ideal is the kernel's own text; and on finite logits the ideal kernel and the reference return equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Whole
public import proofs.«01_k».proof.Proof.Same
public import proofs.«01_k».proof.Proof.Ref
public import proofs.«01_k».proof.Proof.RefVal
public import proofs.«01_k».proof.Proof.KerVal
public import proofs.«01_k».proof.Proof.PreFin
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel over the extended reals ends, its arguments kept and its counters at zero. -/
theorem frame_ideal : Cert.quiescent_KernelIdeal := fun m ρ _ =>
  (θ_run Cert.KernelIdeal.defs _ _).mono (fun _ h => ⟨fun c => ⟨(h.1 c Cert.KernelIdeal.main_arg0 (by decide)).trans (Run.V6_arg0 m c),
    (h.1 c Cert.KernelIdeal.main_arg1 (by decide)).trans (Run.V6_arg1 m c)⟩, h.2⟩) (Run.run_main (F := Ideal) m ρ)

/-- So does the reference. -/
theorem frame_reference : Cert.quiescent_ReferenceIdeal := fun m ρ _ =>
  (θ_run Cert.ReferenceIdeal.defs _ _).mono (fun _ h => ⟨fun c => ⟨(h.1 c Cert.ReferenceIdeal.main_arg0).trans (Ref.VH_arg0 _),
    (h.1 c Cert.ReferenceIdeal.main_arg1).trans (Ref.VH_arg1 _)⟩, h.2⟩) (Ref.run_ref (F := Ideal) m ρ)

/-- Under the precondition the kernel ends in the same way, -/
theorem frame_ideal_finite : Cert.quiescent_KernelIdeal_pre_finite_logits (hPre_finite_logits := Val.preFacts) :=
  fun m ρ _ => frame_ideal m ρ trivial

/-- and so does the reference. -/
theorem frame_reference_finite : Cert.quiescent_ReferenceIdeal_pre_finite_logits (hPre_finite_logits := Val.preFacts) :=
  fun m ρ _ => frame_reference m ρ trivial

section reference
variable (V : Valuation Cert.ReferenceIdeal.τ Cert.ReferenceIdeal.sig (Elt Ideal)) (X : FVec Ideal Cert.ReferenceIdeal.S2048x16x1024 .f32) (L : IVec Cert.ReferenceIdeal.S16 32)
  (h0 : Ref.X0 V = X) (h1 : Ref.L0 V = L) (hX : ∀ j, ∃ r : ℝ, X j = ((r : ℝ) : EReal))
include h0 h1 hX

/-- The reference's sums are the kernel's, -/
theorem ref_sums : Ref.VH V (Proc.devRef .tc Cert.ReferenceIdeal.main_v32) = shapeCast Cert.KernelIdeal.S16 (Cert.KernelIdeal.Gen.k2_pay3 (F := Ideal)
    (Run.partsOf X (shapeCast Cert.KernelIdeal.S1x16 L Cert.KernelIdeal.Gen.shapeCasts_S16_S1x16))) Cert.KernelIdeal.Gen.shapeCasts_S1x16_S16 := by
  subst h0 h1
  exact (Ref.VH_v32 V).trans (Val.sums_agree _ hX _)

/-- its paths the kernel's, -/
theorem ref_paths : Ref.VH V (Proc.devRef .tc Cert.ReferenceIdeal.main_v33) = Cert.KernelIdeal.Gen.k2_pay1 (F := Ideal) (Run.pathsOf (Run.amaxOf X) L) := by
  subst h0 h1
  exact (Ref.VH_v33 V).trans (Val.paths_agree _ hX _)

/-- and its lengths the kernel's. -/
theorem ref_lens : Ref.VH V (Proc.devRef .tc Cert.ReferenceIdeal.main_v22) = shapeCast Cert.KernelIdeal.S16 (Cert.KernelIdeal.Gen.k2_pay2 (F := Ideal)
    (Run.lensOf (Run.amaxOf X) L)) Cert.KernelIdeal.Gen.shapeCasts_S1x16_S16 := by
  subst h0 h1
  exact (Ref.VH_v22 V).trans (Val.lens_agree _ hX _)

end reference

/-- On finite logits the kernel and the reference, from equal arguments, end with equal sums, paths and lengths. -/
theorem algebraic : Cert.algebraic_KernelIdeal_ReferenceIdeal_pre_finite_logits (hPre_finite_logits := Val.preFacts) := by
  intro m g m' g' hpre hargs
  refine ⟨fun c => Run.V6 m c (Run.dr Cert.KernelIdeal.main_v4), fun c => Run.V6 m c (Run.dr Cert.KernelIdeal.main_v3_0),
    fun c => Run.V6 m c (Run.dr Cert.KernelIdeal.main_v5), ?_, ?_⟩
  · exact (θ_run Cert.KernelIdeal.defs _ _).mono (fun _ h c => ⟨h.1 c Cert.KernelIdeal.main_v4 (by decide), h.1 c Cert.KernelIdeal.main_v3_0 (by decide),
      h.1 c Cert.KernelIdeal.main_v5 (by decide), (h.1 c Cert.KernelIdeal.main_arg0 (by decide)).trans (Run.V6_arg0 m c),
      (h.1 c Cert.KernelIdeal.main_arg1 (by decide)).trans (Run.V6_arg1 m c)⟩) (Run.run_main (F := Ideal) m g)
  · have hX : ∀ (c : Dev Cert.KernelIdeal.nD) (j : Cert.KernelIdeal.S2048x16x1024.Idx), ∃ r : ℝ, Run.argX m c j = ((r : ℝ) : EReal) :=
      fun c j => Val.real_of_pre _ _ (hpre c) j
    exact (θ_run Cert.ReferenceIdeal.defs _ _).mono (fun _ h c =>
      ⟨(h.1 c Cert.ReferenceIdeal.main_v32).trans ((ref_sums _ (Run.argX m c) (Run.argL m c) (hargs c).1 (hargs c).2 (hX c)).trans (Run.V6_sums m c).symm),
      (h.1 c Cert.ReferenceIdeal.main_v33).trans ((ref_paths _ (Run.argX m c) (Run.argL m c) (hargs c).1 (hargs c).2 (hX c)).trans (Run.V6_paths m c).symm),
      (h.1 c Cert.ReferenceIdeal.main_v22).trans ((ref_lens _ (Run.argX m c) (Run.argL m c) (hargs c).1 (hargs c).2 (hX c)).trans (Run.V6_lens m c).symm),
      (h.1 c Cert.ReferenceIdeal.main_arg0).trans (Ref.VH_arg0 _), (h.1 c Cert.ReferenceIdeal.main_arg1).trans (Ref.VH_arg1 _)⟩)
      (Ref.run_ref (F := Ideal) m' g')

/-- The certificate. -/
theorem claim : Cert.Claim := ⟨Cert.Kernel.Gen.facts, Cert.KernelIdeal.Gen.facts, Cert.ReferenceIdeal.Gen.facts, Val.preFacts,
  Same.frame_kernel, frame_ideal, frame_ideal_finite, frame_reference, frame_reference_finite, trivial, algebraic⟩

end Cert.Proof

end
